-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_Qkv2RefIdeal (m : (ℓ : Loc Cert.Qkv2RefIdeal.nD Cert.Qkv2RefIdeal.τ Cert.Qkv2RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_Out2RefIdeal (m : (ℓ : Loc Cert.Out2RefIdeal.nD Cert.Out2RefIdeal.τ Cert.Out2RefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1)
      ∧ r.2.mem ((c.tc : Thread Cert.Qkv2.nD Cert.Qkv2.τ).loc Cert.Qkv2.main_arg2) = m ((c.tc : Thread Cert.Qkv2.nD Cert.Qkv2.τ).loc Cert.Qkv2.main_arg2)
      ∧ r.2.mem ((c.tc : Thread Cert.Qkv2.nD Cert.Qkv2.τ).loc Cert.Qkv2.main_arg3) = m ((c.tc : Thread Cert.Qkv2.nD Cert.Qkv2.τ).loc Cert.Qkv2.main_arg3)
      ∧ r.2.mem ((c.tc : Thread Cert.Qkv2.nD Cert.Qkv2.τ).loc Cert.Qkv2.main_arg4) = m ((c.tc : Thread Cert.Qkv2.nD Cert.Qkv2.τ).loc Cert.Qkv2.main_arg4))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
      ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
      ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
      ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4))
      ∧ r.2.sem = fun _ => 0)

def quiescent_Qkv2RefIdeal [hQkv2RefIdeal : Cert.Qkv2RefIdeal.Facts] : Prop :=
  ∀ (m : (ℓ : Loc Cert.Qkv2RefIdeal.nD Cert.Qkv2RefIdeal.τ Cert.Qkv2RefIdeal.sig) → Buf (Elt Ideal) ℓ) (g : Dev Cert.Qkv2RefIdeal.nD → PrngReg), Pre_Qkv2RefIdeal m →
    θ_run (Cert.Qkv2RefIdeal.defs (F := Ideal)) (onTc (τ := Cert.Qkv2RefIdeal.τ) (Cert.Qkv2RefIdeal.main (F := Ideal))) ⟨m, fun _ => 0, g⟩ (fun r => (∀ c : Dev Cert.Qkv2RefIdeal.nD,
      r.2.mem ((c.tc : Thread Cert.Qkv2RefIdeal.nD Cert.Qkv2RefIdeal.τ).loc Cert.Qkv2RefIdeal.main_arg0) = m ((c.tc : Thread Cert.Qkv2RefIdeal.nD Cert.Qkv2RefIdeal.τ).loc Cert.Qkv2RefIdeal.main_arg0)
      ∧ r.2.mem ((c.tc : Thread Cert.Qkv2RefIdeal.nD Cert.Qkv2RefIdeal.τ).loc Cert.Qkv2RefIdeal.main_arg1) = m ((c.tc : Thread Cert.Qkv2RefIdeal.nD Cert.Qkv2RefIdeal.τ).loc Cert.Qkv2RefIdeal.main_arg1)
      ∧ r.2.mem ((c.tc : Thread Cert.Qkv2RefIdeal.nD Cert.Qkv2RefIdeal.τ).loc Cert.Qkv2RefIdeal.main_arg2) = m ((c.tc : Thread Cert.Qkv2RefIdeal.nD Cert.Qkv2RefIdeal.τ).loc Cert.Qkv2RefIdeal.main_arg2)
      ∧ r.2.mem ((c.tc : Thread Cert.Qkv2RefIdeal.nD Cert.Qkv2RefIdeal.τ).loc Cert.Qkv2RefIdeal.main_arg3) = m ((c.tc : Thread Cert.Qkv2RefIdeal.nD Cert.Qkv2RefIdeal.τ).loc Cert.Qkv2RefIdeal.main_arg3)
      ∧ r.2.mem ((c.tc : Thread Cert.Qkv2RefIdeal.nD Cert.Qkv2RefIdeal.τ).loc Cert.Qkv2RefIdeal.main_arg4) = m ((c.tc : Thread Cert.Qkv2RefIdeal.nD Cert.Qkv2RefIdeal.τ).loc Cert.Qkv2RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5))
      ∧ r.2.sem = fun _ => 0)

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1)
      ∧ r.2.mem ((c.tc : Thread Cert.Out2.nD Cert.Out2.τ).loc Cert.Out2.main_arg2) = m ((c.tc : Thread Cert.Out2.nD Cert.Out2.τ).loc Cert.Out2.main_arg2)
      ∧ r.2.mem ((c.tc : Thread Cert.Out2.nD Cert.Out2.τ).loc Cert.Out2.main_arg3) = m ((c.tc : Thread Cert.Out2.nD Cert.Out2.τ).loc Cert.Out2.main_arg3)
      ∧ r.2.mem ((c.tc : Thread Cert.Out2.nD Cert.Out2.τ).loc Cert.Out2.main_arg4) = m ((c.tc : Thread Cert.Out2.nD Cert.Out2.τ).loc Cert.Out2.main_arg4))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
      ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
      ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
      ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4))
      ∧ r.2.sem = fun _ => 0)

def quiescent_Out2RefIdeal [hOut2RefIdeal : Cert.Out2RefIdeal.Facts] : Prop :=
  ∀ (m : (ℓ : Loc Cert.Out2RefIdeal.nD Cert.Out2RefIdeal.τ Cert.Out2RefIdeal.sig) → Buf (Elt Ideal) ℓ) (g : Dev Cert.Out2RefIdeal.nD → PrngReg), Pre_Out2RefIdeal m →
    θ_run (Cert.Out2RefIdeal.defs (F := Ideal)) (onTc (τ := Cert.Out2RefIdeal.τ) (Cert.Out2RefIdeal.main (F := Ideal))) ⟨m, fun _ => 0, g⟩ (fun r => (∀ c : Dev Cert.Out2RefIdeal.nD,
      r.2.mem ((c.tc : Thread Cert.Out2RefIdeal.nD Cert.Out2RefIdeal.τ).loc Cert.Out2RefIdeal.main_arg0) = m ((c.tc : Thread Cert.Out2RefIdeal.nD Cert.Out2RefIdeal.τ).loc Cert.Out2RefIdeal.main_arg0)
      ∧ r.2.mem ((c.tc : Thread Cert.Out2RefIdeal.nD Cert.Out2RefIdeal.τ).loc Cert.Out2RefIdeal.main_arg1) = m ((c.tc : Thread Cert.Out2RefIdeal.nD Cert.Out2RefIdeal.τ).loc Cert.Out2RefIdeal.main_arg1)
      ∧ r.2.mem ((c.tc : Thread Cert.Out2RefIdeal.nD Cert.Out2RefIdeal.τ).loc Cert.Out2RefIdeal.main_arg2) = m ((c.tc : Thread Cert.Out2RefIdeal.nD Cert.Out2RefIdeal.τ).loc Cert.Out2RefIdeal.main_arg2)
      ∧ r.2.mem ((c.tc : Thread Cert.Out2RefIdeal.nD Cert.Out2RefIdeal.τ).loc Cert.Out2RefIdeal.main_arg3) = m ((c.tc : Thread Cert.Out2RefIdeal.nD Cert.Out2RefIdeal.τ).loc Cert.Out2RefIdeal.main_arg3)
      ∧ r.2.mem ((c.tc : Thread Cert.Out2RefIdeal.nD Cert.Out2RefIdeal.τ).loc Cert.Out2RefIdeal.main_arg4) = m ((c.tc : Thread Cert.Out2RefIdeal.nD Cert.Out2RefIdeal.τ).loc Cert.Out2RefIdeal.main_arg4))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Qkv2_Qkv2Ideal : Prop :=
  True

def algebraic_Qkv2Ideal_Qkv2RefIdeal [hQkv2Ideal : Cert.Qkv2Ideal.Facts] [hQkv2RefIdeal : Cert.Qkv2RefIdeal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.Qkv2RefIdeal.nD Cert.Qkv2RefIdeal.τ Cert.Qkv2RefIdeal.sig) → Buf (Elt Ideal) ℓ) (g' : Dev Cert.Qkv2RefIdeal.nD → PrngReg), Pre_Qkv2Ideal m →
    (∀ c : Dev Cert.Qkv2Ideal.nD,
      m' ((c.tc : Thread Cert.Qkv2RefIdeal.nD Cert.Qkv2RefIdeal.τ).loc Cert.Qkv2RefIdeal.main_arg0) = m ((c.tc : Thread Cert.Qkv2Ideal.nD Cert.Qkv2Ideal.τ).loc Cert.Qkv2Ideal.main_arg0)
      ∧ m' ((c.tc : Thread Cert.Qkv2RefIdeal.nD Cert.Qkv2RefIdeal.τ).loc Cert.Qkv2RefIdeal.main_arg1) = m ((c.tc : Thread Cert.Qkv2Ideal.nD Cert.Qkv2Ideal.τ).loc Cert.Qkv2Ideal.main_arg1)
      ∧ m' ((c.tc : Thread Cert.Qkv2RefIdeal.nD Cert.Qkv2RefIdeal.τ).loc Cert.Qkv2RefIdeal.main_arg2) = m ((c.tc : Thread Cert.Qkv2Ideal.nD Cert.Qkv2Ideal.τ).loc Cert.Qkv2Ideal.main_arg2)
      ∧ m' ((c.tc : Thread Cert.Qkv2RefIdeal.nD Cert.Qkv2RefIdeal.τ).loc Cert.Qkv2RefIdeal.main_arg3) = m ((c.tc : Thread Cert.Qkv2Ideal.nD Cert.Qkv2Ideal.τ).loc Cert.Qkv2Ideal.main_arg3)
      ∧ m' ((c.tc : Thread Cert.Qkv2RefIdeal.nD Cert.Qkv2RefIdeal.τ).loc Cert.Qkv2RefIdeal.main_arg4) = m ((c.tc : Thread Cert.Qkv2Ideal.nD Cert.Qkv2Ideal.τ).loc Cert.Qkv2Ideal.main_arg4)) →
    ∃ (v0 : (c : Dev Cert.Qkv2Ideal.nD) → Buf (Elt Ideal) ((c.tc : Thread Cert.Qkv2Ideal.nD Cert.Qkv2Ideal.τ).loc Cert.Qkv2Ideal.main_v2_0)) (v1 : (c : Dev Cert.Qkv2Ideal.nD) → Buf (Elt Ideal) ((c.tc : Thread Cert.Qkv2Ideal.nD Cert.Qkv2Ideal.τ).loc Cert.Qkv2Ideal.main_v2_1)) (v2 : (c : Dev Cert.Qkv2Ideal.nD) → Buf (Elt Ideal) ((c.tc : Thread Cert.Qkv2Ideal.nD Cert.Qkv2Ideal.τ).loc Cert.Qkv2Ideal.main_v2_2)) (v3 : (c : Dev Cert.Qkv2Ideal.nD) → Buf (Elt Ideal) ((c.tc : Thread Cert.Qkv2Ideal.nD Cert.Qkv2Ideal.τ).loc Cert.Qkv2Ideal.main_v2_3)) (v4 : (c : Dev Cert.Qkv2Ideal.nD) → Buf (Elt Ideal) ((c.tc : Thread Cert.Qkv2Ideal.nD Cert.Qkv2Ideal.τ).loc Cert.Qkv2Ideal.main_v2_4)) (v5 : (c : Dev Cert.Qkv2Ideal.nD) → Buf (Elt Ideal) ((c.tc : Thread Cert.Qkv2Ideal.nD Cert.Qkv2Ideal.τ).loc Cert.Qkv2Ideal.main_v2_5)) (v6 : (c : Dev Cert.Qkv2Ideal.nD) → Buf (Elt Ideal) ((c.tc : Thread Cert.Qkv2Ideal.nD Cert.Qkv2Ideal.τ).loc Cert.Qkv2Ideal.main_v2_6)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v2_0) = v0 c
          ∧ r.2.mem ((c.tc : Thread Cert.Qkv2Ideal.nD Cert.Qkv2Ideal.τ).loc Cert.Qkv2Ideal.main_v2_1) = v1 c
          ∧ r.2.mem ((c.tc : Thread Cert.Qkv2Ideal.nD Cert.Qkv2Ideal.τ).loc Cert.Qkv2Ideal.main_v2_2) = v2 c
          ∧ r.2.mem ((c.tc : Thread Cert.Qkv2Ideal.nD Cert.Qkv2Ideal.τ).loc Cert.Qkv2Ideal.main_v2_3) = v3 c
          ∧ r.2.mem ((c.tc : Thread Cert.Qkv2Ideal.nD Cert.Qkv2Ideal.τ).loc Cert.Qkv2Ideal.main_v2_4) = v4 c
          ∧ r.2.mem ((c.tc : Thread Cert.Qkv2Ideal.nD Cert.Qkv2Ideal.τ).loc Cert.Qkv2Ideal.main_v2_5) = v5 c
          ∧ r.2.mem ((c.tc : Thread Cert.Qkv2Ideal.nD Cert.Qkv2Ideal.τ).loc Cert.Qkv2Ideal.main_v2_6) = v6 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
          ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
          ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
          ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4))
      ∧ θ_run (Cert.Qkv2RefIdeal.defs (F := Ideal)) (onTc (τ := Cert.Qkv2RefIdeal.τ) (Cert.Qkv2RefIdeal.main (F := Ideal))) ⟨m', fun _ => 0, g'⟩ (fun r => ∀ c : Dev Cert.Qkv2RefIdeal.nD,
          r.2.mem ((c.tc : Thread Cert.Qkv2RefIdeal.nD Cert.Qkv2RefIdeal.τ).loc Cert.Qkv2RefIdeal.main_v0_0) = v0 c
          ∧ r.2.mem ((c.tc : Thread Cert.Qkv2RefIdeal.nD Cert.Qkv2RefIdeal.τ).loc Cert.Qkv2RefIdeal.main_v0_1) = v1 c
          ∧ r.2.mem ((c.tc : Thread Cert.Qkv2RefIdeal.nD Cert.Qkv2RefIdeal.τ).loc Cert.Qkv2RefIdeal.main_v0_2) = v2 c
          ∧ r.2.mem ((c.tc : Thread Cert.Qkv2RefIdeal.nD Cert.Qkv2RefIdeal.τ).loc Cert.Qkv2RefIdeal.main_v0_3) = v3 c
          ∧ r.2.mem ((c.tc : Thread Cert.Qkv2RefIdeal.nD Cert.Qkv2RefIdeal.τ).loc Cert.Qkv2RefIdeal.main_v0_4) = v4 c
          ∧ r.2.mem ((c.tc : Thread Cert.Qkv2RefIdeal.nD Cert.Qkv2RefIdeal.τ).loc Cert.Qkv2RefIdeal.main_v0_5) = v5 c
          ∧ r.2.mem ((c.tc : Thread Cert.Qkv2RefIdeal.nD Cert.Qkv2RefIdeal.τ).loc Cert.Qkv2RefIdeal.main_v0_6) = v6 c
          ∧ r.2.mem ((c.tc : Thread Cert.Qkv2RefIdeal.nD Cert.Qkv2RefIdeal.τ).loc Cert.Qkv2RefIdeal.main_arg0) = m' ((c.tc : Thread Cert.Qkv2RefIdeal.nD Cert.Qkv2RefIdeal.τ).loc Cert.Qkv2RefIdeal.main_arg0)
          ∧ r.2.mem ((c.tc : Thread Cert.Qkv2RefIdeal.nD Cert.Qkv2RefIdeal.τ).loc Cert.Qkv2RefIdeal.main_arg1) = m' ((c.tc : Thread Cert.Qkv2RefIdeal.nD Cert.Qkv2RefIdeal.τ).loc Cert.Qkv2RefIdeal.main_arg1)
          ∧ r.2.mem ((c.tc : Thread Cert.Qkv2RefIdeal.nD Cert.Qkv2RefIdeal.τ).loc Cert.Qkv2RefIdeal.main_arg2) = m' ((c.tc : Thread Cert.Qkv2RefIdeal.nD Cert.Qkv2RefIdeal.τ).loc Cert.Qkv2RefIdeal.main_arg2)
          ∧ r.2.mem ((c.tc : Thread Cert.Qkv2RefIdeal.nD Cert.Qkv2RefIdeal.τ).loc Cert.Qkv2RefIdeal.main_arg3) = m' ((c.tc : Thread Cert.Qkv2RefIdeal.nD Cert.Qkv2RefIdeal.τ).loc Cert.Qkv2RefIdeal.main_arg3)
          ∧ r.2.mem ((c.tc : Thread Cert.Qkv2RefIdeal.nD Cert.Qkv2RefIdeal.τ).loc Cert.Qkv2RefIdeal.main_arg4) = m' ((c.tc : Thread Cert.Qkv2RefIdeal.nD Cert.Qkv2RefIdeal.τ).loc Cert.Qkv2RefIdeal.main_arg4))

def preserves_Out1_Out1Ideal : Prop :=
  IdealRules.named_const.Statement Cert.Out1Ideal.κ "inv_d" .f32 0x394CCCCD#32 ((1 / 5120 : ℝ) : EReal)

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)) →
    ∃ (v0 : (c : Dev Cert.Out1Ideal.nD) → Buf (Elt Ideal) ((c.tc : Thread Cert.Out1Ideal.nD Cert.Out1Ideal.τ).loc Cert.Out1Ideal.main_v1_0)) (v1 : (c : Dev Cert.Out1Ideal.nD) → Buf (Elt Ideal) ((c.tc : Thread Cert.Out1Ideal.nD Cert.Out1Ideal.τ).loc Cert.Out1Ideal.main_v1_1)) (v2 : (c : Dev Cert.Out1Ideal.nD) → Buf (Elt Ideal) ((c.tc : Thread Cert.Out1Ideal.nD Cert.Out1Ideal.τ).loc Cert.Out1Ideal.main_v1_2)) (v3 : (c : Dev Cert.Out1Ideal.nD) → Buf (Elt Ideal) ((c.tc : Thread Cert.Out1Ideal.nD Cert.Out1Ideal.τ).loc Cert.Out1Ideal.main_v1_3)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v1_0) = v0 c
          ∧ r.2.mem ((c.tc : Thread Cert.Out1Ideal.nD Cert.Out1Ideal.τ).loc Cert.Out1Ideal.main_v1_1) = v1 c
          ∧ r.2.mem ((c.tc : Thread Cert.Out1Ideal.nD Cert.Out1Ideal.τ).loc Cert.Out1Ideal.main_v1_2) = v2 c
          ∧ r.2.mem ((c.tc : Thread Cert.Out1Ideal.nD Cert.Out1Ideal.τ).loc Cert.Out1Ideal.main_v1_3) = v3 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v0_0) = v0 c
          ∧ r.2.mem ((c.tc : Thread Cert.Out1RefIdeal.nD Cert.Out1RefIdeal.τ).loc Cert.Out1RefIdeal.main_v0_1) = v1 c
          ∧ r.2.mem ((c.tc : Thread Cert.Out1RefIdeal.nD Cert.Out1RefIdeal.τ).loc Cert.Out1RefIdeal.main_v0_2) = v2 c
          ∧ r.2.mem ((c.tc : Thread Cert.Out1RefIdeal.nD Cert.Out1RefIdeal.τ).loc Cert.Out1RefIdeal.main_v0_3) = v3 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5))

def preserves_Out2_Out2Ideal : Prop :=
  True

def algebraic_Out2Ideal_Out2RefIdeal [hOut2Ideal : Cert.Out2Ideal.Facts] [hOut2RefIdeal : Cert.Out2RefIdeal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.Out2RefIdeal.nD Cert.Out2RefIdeal.τ Cert.Out2RefIdeal.sig) → Buf (Elt Ideal) ℓ) (g' : Dev Cert.Out2RefIdeal.nD → PrngReg), Pre_Out2Ideal m →
    (∀ c : Dev Cert.Out2Ideal.nD,
      m' ((c.tc : Thread Cert.Out2RefIdeal.nD Cert.Out2RefIdeal.τ).loc Cert.Out2RefIdeal.main_arg0) = m ((c.tc : Thread Cert.Out2Ideal.nD Cert.Out2Ideal.τ).loc Cert.Out2Ideal.main_arg0)
      ∧ m' ((c.tc : Thread Cert.Out2RefIdeal.nD Cert.Out2RefIdeal.τ).loc Cert.Out2RefIdeal.main_arg1) = m ((c.tc : Thread Cert.Out2Ideal.nD Cert.Out2Ideal.τ).loc Cert.Out2Ideal.main_arg1)
      ∧ m' ((c.tc : Thread Cert.Out2RefIdeal.nD Cert.Out2RefIdeal.τ).loc Cert.Out2RefIdeal.main_arg2) = m ((c.tc : Thread Cert.Out2Ideal.nD Cert.Out2Ideal.τ).loc Cert.Out2Ideal.main_arg2)
      ∧ m' ((c.tc : Thread Cert.Out2RefIdeal.nD Cert.Out2RefIdeal.τ).loc Cert.Out2RefIdeal.main_arg3) = m ((c.tc : Thread Cert.Out2Ideal.nD Cert.Out2Ideal.τ).loc Cert.Out2Ideal.main_arg3)
      ∧ m' ((c.tc : Thread Cert.Out2RefIdeal.nD Cert.Out2RefIdeal.τ).loc Cert.Out2RefIdeal.main_arg4) = m ((c.tc : Thread Cert.Out2Ideal.nD Cert.Out2Ideal.τ).loc Cert.Out2Ideal.main_arg4)) →
    ∃ (v0 : (c : Dev Cert.Out2Ideal.nD) → Buf (Elt Ideal) ((c.tc : Thread Cert.Out2Ideal.nD Cert.Out2Ideal.τ).loc Cert.Out2Ideal.main_v1)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v1) = v0 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
          ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
          ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
          ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4))
      ∧ θ_run (Cert.Out2RefIdeal.defs (F := Ideal)) (onTc (τ := Cert.Out2RefIdeal.τ) (Cert.Out2RefIdeal.main (F := Ideal))) ⟨m', fun _ => 0, g'⟩ (fun r => ∀ c : Dev Cert.Out2RefIdeal.nD,
          r.2.mem ((c.tc : Thread Cert.Out2RefIdeal.nD Cert.Out2RefIdeal.τ).loc Cert.Out2RefIdeal.main_v0) = v0 c
          ∧ r.2.mem ((c.tc : Thread Cert.Out2RefIdeal.nD Cert.Out2RefIdeal.τ).loc Cert.Out2RefIdeal.main_arg0) = m' ((c.tc : Thread Cert.Out2RefIdeal.nD Cert.Out2RefIdeal.τ).loc Cert.Out2RefIdeal.main_arg0)
          ∧ r.2.mem ((c.tc : Thread Cert.Out2RefIdeal.nD Cert.Out2RefIdeal.τ).loc Cert.Out2RefIdeal.main_arg1) = m' ((c.tc : Thread Cert.Out2RefIdeal.nD Cert.Out2RefIdeal.τ).loc Cert.Out2RefIdeal.main_arg1)
          ∧ r.2.mem ((c.tc : Thread Cert.Out2RefIdeal.nD Cert.Out2RefIdeal.τ).loc Cert.Out2RefIdeal.main_arg2) = m' ((c.tc : Thread Cert.Out2RefIdeal.nD Cert.Out2RefIdeal.τ).loc Cert.Out2RefIdeal.main_arg2)
          ∧ r.2.mem ((c.tc : Thread Cert.Out2RefIdeal.nD Cert.Out2RefIdeal.τ).loc Cert.Out2RefIdeal.main_arg3) = m' ((c.tc : Thread Cert.Out2RefIdeal.nD Cert.Out2RefIdeal.τ).loc Cert.Out2RefIdeal.main_arg3)
          ∧ r.2.mem ((c.tc : Thread Cert.Out2RefIdeal.nD Cert.Out2RefIdeal.τ).loc Cert.Out2RefIdeal.main_arg4) = m' ((c.tc : Thread Cert.Out2RefIdeal.nD Cert.Out2RefIdeal.τ).loc Cert.Out2RefIdeal.main_arg4))

def Claim : Prop :=
  ∃ (hNorm : Cert.Norm.Facts) (hNormIdeal : Cert.NormIdeal.Facts) (hNormRefIdeal : Cert.NormRefIdeal.Facts) (hQkv2 : Cert.Qkv2.Facts) (hQkv2Ideal : Cert.Qkv2Ideal.Facts) (hQkv2RefIdeal : Cert.Qkv2RefIdeal.Facts) (hOut1 : Cert.Out1.Facts) (hOut1Ideal : Cert.Out1Ideal.Facts) (hOut1RefIdeal : Cert.Out1RefIdeal.Facts) (hOut2 : Cert.Out2.Facts) (hOut2Ideal : Cert.Out2Ideal.Facts) (hOut2RefIdeal : Cert.Out2RefIdeal.Facts),
    quiescent_Norm (hNorm := hNorm)
    ∧ quiescent_NormIdeal (hNormIdeal := hNormIdeal)
    ∧ quiescent_NormRefIdeal (hNormRefIdeal := hNormRefIdeal)
    ∧ quiescent_Qkv2 (hQkv2 := hQkv2)
    ∧ quiescent_Qkv2Ideal (hQkv2Ideal := hQkv2Ideal)
    ∧ quiescent_Qkv2RefIdeal (hQkv2RefIdeal := hQkv2RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Out2 (hOut2 := hOut2)
    ∧ quiescent_Out2Ideal (hOut2Ideal := hOut2Ideal)
    ∧ quiescent_Out2RefIdeal (hOut2RefIdeal := hOut2RefIdeal)
    ∧ preserves_Norm_NormIdeal
    ∧ algebraic_NormIdeal_NormRefIdeal (hNormIdeal := hNormIdeal) (hNormRefIdeal := hNormRefIdeal)
    ∧ preserves_Qkv2_Qkv2Ideal
    ∧ algebraic_Qkv2Ideal_Qkv2RefIdeal (hQkv2Ideal := hQkv2Ideal) (hQkv2RefIdeal := hQkv2RefIdeal)
    ∧ preserves_Out1_Out1Ideal
    ∧ algebraic_Out1Ideal_Out1RefIdeal (hOut1Ideal := hOut1Ideal) (hOut1RefIdeal := hOut1RefIdeal)
    ∧ preserves_Out2_Out2Ideal
    ∧ algebraic_Out2Ideal_Out2RefIdeal (hOut2Ideal := hOut2Ideal) (hOut2RefIdeal := hOut2RefIdeal)
-- ==== Norm.lean ====
abbrev S1792x5120 : Shape := ⟨2, ![1792, 5120]⟩
abbrev S1x5120 : Shape := ⟨2, ![1, 5120]⟩
abbrev S1792x128 : Shape := ⟨2, ![1792, 128]⟩
abbrev S14x1x128 : Shape := ⟨3, ![14, 1, 128]⟩
abbrev S128x5120 : Shape := ⟨2, ![128, 5120]⟩
abbrev S128x128 : Shape := ⟨2, ![128, 128]⟩
abbrev S1x1x128 : Shape := ⟨3, ![1, 1, 128]⟩
abbrev S128 : Shape := ⟨1, ![128]⟩
abbrev S128x1 : Shape := ⟨2, ![128, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S1792x5120, .bf16⟩
  | .hbm, ⟨1, _⟩ => ⟨S1x5120, .f32⟩
  | .hbm, ⟨2, _⟩ => ⟨S1792x5120, .fp8e4m3⟩
  | .hbm, ⟨3, _⟩ => ⟨S1792x128, .f32⟩
  | .hbm, ⟨4, _⟩ => ⟨S14x1x128, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S128x5120, .fp8e4m3⟩
  | .local _ .vmem, ⟨4, _⟩ => ⟨S128x5120, .fp8e4m3⟩
  | .local _ .vmem, ⟨5, _⟩ => ⟨S128x128, .f32⟩
  | .local _ .vmem, ⟨6, _⟩ => ⟨S128x128, .f32⟩
  | .local _ .vmem, ⟨7, _⟩ => ⟨S1x1x128, .f32⟩
  | .local _ .vmem, ⟨8, _⟩ => ⟨S1x1x128, .f32⟩
  | _, _ => ⟨S1792x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S1792x5120 : Shape := ⟨2, ![1792, 5120]⟩
abbrev S1x5120 : Shape := ⟨2, ![1, 5120]⟩
abbrev S1792x128 : Shape := ⟨2, ![1792, 128]⟩
abbrev S14x1x128 : Shape := ⟨3, ![14, 1, 128]⟩
abbrev S1792 : Shape := ⟨1, ![1792]⟩
abbrev S1792x1 : Shape := ⟨2, ![1792, 1]⟩

abbrev nBuf : Space → Nat
  | .hbm => 5
  | .vmem => 5
  | .smem => 0
  | _ => 0

abbrev bufTy : (tb : Table) → Fin (tcTables nBuf tb) → BufTy
  | .hbm, ⟨0, _⟩ => ⟨S1792x5120, .bf16⟩
  | .hbm, ⟨1, _⟩ => ⟨S1x5120, .f32⟩
  | .hbm, ⟨2, _⟩ => ⟨S1792x5120, .fp8e4m3⟩
  | .hbm, ⟨3, _⟩ => ⟨S1792x128, .f32⟩
  | .hbm, ⟨4, _⟩ => ⟨S14x1x128, .f32⟩
  | .local _ .vmem, ⟨0, _⟩ => ⟨S1792x5120, .bf16⟩
  | .local _ .vmem, ⟨1, _⟩ => ⟨S1x5120, .f32⟩
  | .local _ .vmem, ⟨2, _⟩ => ⟨S1792x5120, .fp8e4m3⟩
  | .local _ .vmem, ⟨3, _⟩ => ⟨S1792x128, .f32⟩
  | .local _ .vmem, ⟨4, _⟩ => ⟨S14x1x128, .f32⟩
  | _, _ => ⟨S1792x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv2.lean ====
abbrev S1792x5120 : Shape := ⟨2, ![1792, 5120]⟩
abbrev S1792x1 : Shape := ⟨2, ![1792, 1]⟩
abbrev S5120x7168 : Shape := ⟨2, ![5120, 7168]⟩
abbrev S1x7168 : Shape := ⟨2, ![1, 7168]⟩
abbrev S1792x128 : Shape := ⟨2, ![1792, 128]⟩
abbrev S1792x1024 : Shape := ⟨2, ![1792, 1024]⟩
abbrev S2x1792x4 : Shape := ⟨3, ![2, 1792, 4]⟩
abbrev S5120x512 : Shape := ⟨2, ![5120, 512]⟩
abbrev S1x512 : Shape := ⟨2, ![1, 512]⟩
abbrev S1792x512 : Shape := ⟨2, ![1792, 512]⟩
abbrev S1x1792x4 : Shape := ⟨3, ![1, 1792, 4]⟩
abbrev S256x5120 : Shape := ⟨2, ![256, 5120]⟩
abbrev S256x512 : Shape := ⟨2, ![256, 512]⟩
abbrev S256x128 : Shape := ⟨2, ![256, 128]⟩
abbrev S1x128 : Shape := ⟨2, ![1, 128]⟩
abbrev S256x4 : Shape := ⟨2, ![256, 4]⟩
abbrev S256 : Shape := ⟨1, ![256]⟩
abbrev S256x1 : Shape := ⟨2, ![256, 1]⟩
abbrev S1x256x4 : Shape := ⟨3, ![1, 256, 4]⟩

abbrev nBuf : Space → Nat
  | .hbm => 14
  | .vmem => 21
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x1, .f32⟩
  | .hbm, ⟨3, _⟩ => ⟨S5120x7168, .fp8e4m3⟩
  | .hbm, ⟨4, _⟩ => ⟨S1x7168, .f32⟩
  | .hbm, ⟨5, _⟩ => ⟨S1792x128, .f32⟩
  | .hbm, ⟨6, _⟩ => ⟨S1792x128, .f32⟩
  | .hbm, ⟨7, _⟩ => ⟨S1792x5120, .bf16⟩
  | .hbm, ⟨8, _⟩ => ⟨S1792x1024, .bf16⟩
  | .hbm, ⟨9, _⟩ => ⟨S1792x1024, .bf16⟩
  | .hbm, ⟨10, _⟩ => ⟨S1792x1024, .fp8e4m3⟩
  | .hbm, ⟨11, _⟩ => ⟨S2x1792x4, .f32⟩
  | .hbm, ⟨12, _⟩ => ⟨S1792x1024, .fp8e4m3⟩
  | .hbm, ⟨13, _⟩ => ⟨S2x1792x4, .f32⟩
  | .local _ .vmem, ⟨0, _⟩ => ⟨S1792x5120, .fp8e4m3⟩
  | .local _ .vmem, ⟨1, _⟩ => ⟨S1792x128, .f32⟩
  | .local _ .vmem, ⟨2, _⟩ => ⟨S1792x128, .f32⟩
  | .local _ .vmem, ⟨3, _⟩ => ⟨S5120x512, .fp8e4m3⟩
  | .local _ .vmem, ⟨4, _⟩ => ⟨S5120x512, .fp8e4m3⟩
  | .local _ .vmem, ⟨5, _⟩ => ⟨S1x512, .f32⟩
  | .local _ .vmem, ⟨6, _⟩ => ⟨S1x512, .f32⟩
  | .local _ .vmem, ⟨7, _⟩ => ⟨S1792x512, .bf16⟩
  | .local _ .vmem, ⟨8, _⟩ => ⟨S1792x512, .bf16⟩
  | .local _ .vmem, ⟨9, _⟩ => ⟨S1792x512, .bf16⟩
  | .local _ .vmem, ⟨10, _⟩ => ⟨S1792x512, .bf16⟩
  | .local _ .vmem, ⟨11, _⟩ => ⟨S1792x512, .bf16⟩
  | .local _ .vmem, ⟨12, _⟩ => ⟨S1792x512, .bf16⟩
  | .local _ .vmem, ⟨13, _⟩ => ⟨S1792x512, .fp8e4m3⟩
  | .local _ .vmem, ⟨14, _⟩ => ⟨S1792x512, .fp8e4m3⟩
  | .local _ .vmem, ⟨15, _⟩ => ⟨S1x1792x4, .f32⟩
  | .local _ .vmem, ⟨16, _⟩ => ⟨S1x1792x4, .f32⟩
  | .local _ .vmem, ⟨17, _⟩ => ⟨S1792x512, .fp8e4m3⟩
  | .local _ .vmem, ⟨18, _⟩ => ⟨S1792x512, .fp8e4m3⟩
  | .local _ .vmem, ⟨19, _⟩ => ⟨S1x1792x4, .f32⟩
  | .local _ .vmem, ⟨20, _⟩ => ⟨S1x1792x4, .f32⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let c12_i32 : BitVec 32 := 12#32
  let v4 : BitVec 1 := Scalar.cmpi .slt arg0 c12_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c12_i32_2 : BitVec 32 := 12#32
  let v8 : BitVec 1 := Scalar.cmpi .sge arg0 c12_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c10_i32 : BitVec 32 := 10#32
  let v0 : BitVec 32 := Scalar.subi arg0 c10_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_8 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_9 (i : grid0.Coords) : Fin 3 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![v2.toNat, c0_i32_0.toNat, c0_i32_1.toNat]

def cc0_transform_10 (i : grid0.Coords) : Fin 2 → Nat :=
  let arg0 : BitVec 32 := BitVec.ofNat 32 (i 0).val
  let c10_i32 : BitVec 32 := 10#32
  let v0 : BitVec 32 := Scalar.subi arg0 c10_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_11 (i : grid0.Coords) : Fin 3 → Nat :=
  let arg0 : BitVec 32 := BitVec.ofNat 32 (i 0).val
  let c10_i32 : BitVec 32 := 10#32
  let v0 : BitVec 32 := Scalar.subi arg0 c10_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  let c0_i32_2 : BitVec 32 := 0#32
  ![v3.toNat, c0_i32_0.toNat, c0_i32_1.toNat]

abbrev stage0_0 : Fin 1 → Memref sig .tc .vmem S1792x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1792x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1792x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1792x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1792x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Qkv2RefIdeal.lean ====
abbrev S1792x5120 : Shape := ⟨2, ![1792, 5120]⟩
abbrev S1792x1 : Shape := ⟨2, ![1792, 1]⟩
abbrev S5120x7168 : Shape := ⟨2, ![5120, 7168]⟩
abbrev S1x7168 : Shape := ⟨2, ![1, 7168]⟩
abbrev S1792x1024 : Shape := ⟨2, ![1792, 1024]⟩
abbrev S2x1792x4 : Shape := ⟨3, ![2, 1792, 4]⟩
abbrev S1792x7168 : Shape := ⟨2, ![1792, 7168]⟩
abbrev S1792x8x128 : Shape := ⟨3, ![1792, 8, 128]⟩
abbrev S1792x8 : Shape := ⟨2, ![1792, 8]⟩
abbrev S1792x8x1 : Shape := ⟨3, ![1792, 8, 1]⟩
abbrev S1792x4 : Shape := ⟨2, ![1792, 4]⟩
abbrev S1x1792x4 : Shape := ⟨3, ![1, 1792, 4]⟩

abbrev nBuf : Space → Nat
  | .hbm => 12
  | .vmem => 12
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x1, .f32⟩
  | .hbm, ⟨3, _⟩ => ⟨S5120x7168, .fp8e4m3⟩
  | .hbm, ⟨4, _⟩ => ⟨S1x7168, .f32⟩
  | .hbm, ⟨5, _⟩ => ⟨S1792x5120, .bf16⟩
  | .hbm, ⟨6, _⟩ => ⟨S1792x1024, .bf16⟩
  | .hbm, ⟨7, _⟩ => ⟨S1792x1024, .bf16⟩
  | .hbm, ⟨8, _⟩ => ⟨S1792x1024, .fp8e4m3⟩
  | .hbm, ⟨9, _⟩ => ⟨S2x1792x4, .f32⟩
  | .hbm, ⟨10, _⟩ => ⟨S1792x1024, .fp8e4m3⟩
  | .hbm, ⟨11, _⟩ => ⟨S2x1792x4, .f32⟩
  | .local _ .vmem, ⟨0, _⟩ => ⟨S1792x5120, .fp8e4m3⟩
  | .local _ .vmem, ⟨1, _⟩ => ⟨S1792x1, .f32⟩
  | .local _ .vmem, ⟨2, _⟩ => ⟨S1792x1, .f32⟩
  | .local _ .vmem, ⟨3, _⟩ => ⟨S5120x7168, .fp8e4m3⟩
  | .local _ .vmem, ⟨4, _⟩ => ⟨S1x7168, .f32⟩
  | .local _ .vmem, ⟨5, _⟩ => ⟨S1792x5120, .bf16⟩
  | .local _ .vmem, ⟨6, _⟩ => ⟨S1792x1024, .bf16⟩
  | .local _ .vmem, ⟨7, _⟩ => ⟨S1792x1024, .bf16⟩
  | .local _ .vmem, ⟨8, _⟩ => ⟨S1792x1024, .fp8e4m3⟩
  | .local _ .vmem, ⟨9, _⟩ => ⟨S2x1792x4, .f32⟩
  | .local _ .vmem, ⟨10, _⟩ => ⟨S1792x1024, .fp8e4m3⟩
  | .local _ .vmem, ⟨11, _⟩ => ⟨S2x1792x4, .f32⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1792x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1792x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1792x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Out1.lean ====
abbrev S1792x5120 : Shape := ⟨2, ![1792, 5120]⟩
abbrev S1792x1 : Shape := ⟨2, ![1792, 1]⟩
abbrev S5120x5120 : Shape := ⟨2, ![5120, 5120]⟩
abbrev S1x5120 : Shape := ⟨2, ![1, 5120]⟩
abbrev S1792x128 : Shape := ⟨2, ![1792, 128]⟩
abbrev S14x1x128 : Shape := ⟨3, ![14, 1, 128]⟩
abbrev S256x5120 : Shape := ⟨2, ![256, 5120]⟩
abbrev S256x128 : Shape := ⟨2, ![256, 128]⟩
abbrev S2x1x128 : Shape := ⟨3, ![2, 1, 128]⟩
abbrev S256x1 : Shape := ⟨2, ![256, 1]⟩
abbrev S256x512 : Shape := ⟨2, ![256, 512]⟩
abbrev S5120x512 : Shape := ⟨2, ![5120, 512]⟩
abbrev S1x512 : Shape := ⟨2, ![1, 512]⟩
abbrev S256 : Shape := ⟨1, ![256]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩

abbrev nBuf : Space → Nat
  | .hbm => 11
  | .vmem => 17
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x5120, .bf16⟩
  | .hbm, ⟨3, _⟩ => ⟨S5120x5120, .fp8e4m3⟩
  | .hbm, ⟨4, _⟩ => ⟨S1x5120, .f32⟩
  | .hbm, ⟨5, _⟩ => ⟨S1x5120, .f32⟩
  | .hbm, ⟨6, _⟩ => ⟨S1792x128, .f32⟩
  | .hbm, ⟨7, _⟩ => ⟨S1792x5120, .f32⟩
  | .hbm, ⟨8, _⟩ => ⟨S1792x5120, .fp8e4m3⟩
  | .hbm, ⟨9, _⟩ => ⟨S1792x128, .f32⟩
  | .hbm, ⟨10, _⟩ => ⟨S14x1x128, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S256x128, .f32⟩
  | .local _ .vmem, ⟨3, _⟩ => ⟨S256x128, .f32⟩
  | .local _ .vmem, ⟨4, _⟩ => ⟨S256x5120, .bf16⟩
  | .local _ .vmem, ⟨5, _⟩ => ⟨S256x5120, .bf16⟩
  | .local _ .vmem, ⟨6, _⟩ => ⟨S5120x5120, .fp8e4m3⟩
  | .local _ .vmem, ⟨7, _⟩ => ⟨S1x5120, .f32⟩
  | .local _ .vmem, ⟨8, _⟩ => ⟨S1x5120, .f32⟩
  | .local _ .vmem, ⟨9, _⟩ => ⟨S256x5120, .f32⟩
  | .local _ .vmem, ⟨10, _⟩ => ⟨S256x5120, .f32⟩
  | .local _ .vmem, ⟨11, _⟩ => ⟨S256x5120, .fp8e4m3⟩
  | .local _ .vmem, ⟨12, _⟩ => ⟨S256x5120, .fp8e4m3⟩
  | .local _ .vmem, ⟨13, _⟩ => ⟨S256x128, .f32⟩
  | .local _ .vmem, ⟨14, _⟩ => ⟨S256x128, .f32⟩
  | .local _ .vmem, ⟨15, _⟩ => ⟨S2x1x128, .f32⟩
  | .local _ .vmem, ⟨16, _⟩ => ⟨S2x1x128, .f32⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Out1Ideal.lean ====
variable {F : FTy → Type} [FloatOps F] [Named F]
def κ : String → Option EReal := fun
  | "inv_d" => some ((1 / 5120 : ℝ) : EReal)
  | _ => none
-- ==== Out1RefIdeal.lean ====
abbrev S1792x5120 : Shape := ⟨2, ![1792, 5120]⟩
abbrev S1792x1 : Shape := ⟨2, ![1792, 1]⟩
abbrev S5120x5120 : Shape := ⟨2, ![5120, 5120]⟩
abbrev S1x5120 : Shape := ⟨2, ![1, 5120]⟩
abbrev S1792x128 : Shape := ⟨2, ![1792, 128]⟩
abbrev S14x1x128 : Shape := ⟨3, ![14, 1, 128]⟩
abbrev S1792 : Shape := ⟨1, ![1792]⟩

abbrev nBuf : Space → Nat
  | .hbm => 10
  | .vmem => 10
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x5120, .bf16⟩
  | .hbm, ⟨3, _⟩ => ⟨S5120x5120, .fp8e4m3⟩
  | .hbm, ⟨4, _⟩ => ⟨S1x5120, .f32⟩
  | .hbm, ⟨5, _⟩ => ⟨S1x5120, .f32⟩
  | .hbm, ⟨6, _⟩ => ⟨S1792x5120, .f32⟩
  | .hbm, ⟨7, _⟩ => ⟨S1792x5120, .fp8e4m3⟩
  | .hbm, ⟨8, _⟩ => ⟨S1792x128, .f32⟩
  | .hbm, ⟨9, _⟩ => ⟨S14x1x128, .f32⟩
  | .local _ .vmem, ⟨0, _⟩ => ⟨S1792x5120, .fp8e4m3⟩
  | .local _ .vmem, ⟨1, _⟩ => ⟨S1792x1, .f32⟩
  | .local _ .vmem, ⟨2, _⟩ => ⟨S1792x5120, .bf16⟩
  | .local _ .vmem, ⟨3, _⟩ => ⟨S5120x5120, .fp8e4m3⟩
  | .local _ .vmem, ⟨4, _⟩ => ⟨S1x5120, .f32⟩
  | .local _ .vmem, ⟨5, _⟩ => ⟨S1x5120, .f32⟩
  | .local _ .vmem, ⟨6, _⟩ => ⟨S1792x5120, .f32⟩
  | .local _ .vmem, ⟨7, _⟩ => ⟨S1792x5120, .fp8e4m3⟩
  | .local _ .vmem, ⟨8, _⟩ => ⟨S1792x128, .f32⟩
  | .local _ .vmem, ⟨9, _⟩ => ⟨S14x1x128, .f32⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1792x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Out2.lean ====
abbrev S1792x5120 : Shape := ⟨2, ![1792, 5120]⟩
abbrev S1792x1 : Shape := ⟨2, ![1792, 1]⟩
abbrev S5120x5120 : Shape := ⟨2, ![5120, 5120]⟩
abbrev S1x5120 : Shape := ⟨2, ![1, 5120]⟩
abbrev S1792x128 : Shape := ⟨2, ![1792, 128]⟩
abbrev S256x5120 : Shape := ⟨2, ![256, 5120]⟩
abbrev S256x128 : Shape := ⟨2, ![256, 128]⟩
abbrev S256x512 : Shape := ⟨2, ![256, 512]⟩
abbrev S5120x512 : Shape := ⟨2, ![5120, 512]⟩
abbrev S256x1 : Shape := ⟨2, ![256, 1]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x5120, .f32⟩
  | .hbm, ⟨3, _⟩ => ⟨S5120x5120, .fp8e4m3⟩
  | .hbm, ⟨4, _⟩ => ⟨S1x5120, .f32⟩
  | .hbm, ⟨5, _⟩ => ⟨S1792x128, .f32⟩
  | .hbm, ⟨6, _⟩ => ⟨S1792x5120, .bf16⟩
  | .local _ .vmem, ⟨0, _⟩ => ⟨S256x5120, .fp8e4m3⟩
  | .local _ .vmem, ⟨1, _⟩ => ⟨S256x5120, .fp8e4m3⟩
  | .local _ .vmem, ⟨2, _⟩ => ⟨S256x128, .f32⟩
  | .local _ .vmem, ⟨3, _⟩ => ⟨S256x128, .f32⟩
  | .local _ .vmem, ⟨4, _⟩ => ⟨S256x5120, .f32⟩
  | .local _ .vmem, ⟨5, _⟩ => ⟨S256x5120, .f32⟩
  | .local _ .vmem, ⟨6, _⟩ => ⟨S5120x5120, .fp8e4m3⟩
  | .local _ .vmem, ⟨7, _⟩ => ⟨S1x5120, .f32⟩
  | .local _ .vmem, ⟨8, _⟩ => ⟨S256x5120, .bf16⟩
  | .local _ .vmem, ⟨9, _⟩ => ⟨S256x5120, .bf16⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Out2RefIdeal.lean ====
abbrev S1792x5120 : Shape := ⟨2, ![1792, 5120]⟩
abbrev S1792x1 : Shape := ⟨2, ![1792, 1]⟩
abbrev S5120x5120 : Shape := ⟨2, ![5120, 5120]⟩
abbrev S1x5120 : Shape := ⟨2, ![1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S1792x5120, .fp8e4m3⟩
  | .hbm, ⟨1, _⟩ => ⟨S1792x1, .f32⟩
  | .hbm, ⟨2, _⟩ => ⟨S1792x5120, .f32⟩
  | .hbm, ⟨3, _⟩ => ⟨S5120x5120, .fp8e4m3⟩
  | .hbm, ⟨4, _⟩ => ⟨S1x5120, .f32⟩
  | .hbm, ⟨5, _⟩ => ⟨S1792x5120, .bf16⟩
  | .local _ .vmem, ⟨0, _⟩ => ⟨S1792x5120, .fp8e4m3⟩
  | .local _ .vmem, ⟨1, _⟩ => ⟨S1792x1, .f32⟩
  | .local _ .vmem, ⟨2, _⟩ => ⟨S1792x5120, .f32⟩
  | .local _ .vmem, ⟨3, _⟩ => ⟨S5120x5120, .fp8e4m3⟩
  | .local _ .vmem, ⟨4, _⟩ => ⟨S1x5120, .f32⟩
  | .local _ .vmem, ⟨5, _⟩ => ⟨S1792x5120, .bf16⟩
  | _, _ => ⟨S1792x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1792x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Row.Defs.lean ====
module
public import Idealize.ShloMosaic.Lib.Pointwise
@[expose] public section

/-! The functions of one row that several of the calls share: the root-mean-square norm of a row and its quantisation. -/

noncomputable section
namespace Cert.Row
open Idealize.ShloMosaic
open scoped BigOperators

/-- The root-mean-square norm of a row `x` of 5120 numbers, scaled by the weights `w`: entry `k` divided by the square root
    of the mean square plus the small constant, times weight `k`. -/
def nrm (x w : Fin 5120 → EReal) (k : Fin 5120) : EReal :=
  Ideal.div (x k) (Ideal.sqrt (Ideal.div (∑ j, x j * x j) (Ideal.ofBits .f32 0x45A00000#32)
    + Ideal.ofBits .f32 0x3727C5AC#32)) * w k

/-- The largest absolute value of a row. -/
def amax {n : Nat} (v : Fin n → EReal) : EReal :=
  Finset.fold max (Ideal.ofBits .f32 0xFF800000#32) (fun k => FloatOps.absf (F := Ideal) (φ := .f32) (v k)) Finset.univ

/-- The quantiser's scale of a row whose largest absolute value is `a`: a 448th of it, or one where it is zero. -/
def scaleOf (a : EReal) : EReal :=
  if a = 0 then 1 else Ideal.div a (Ideal.ofBits .f32 0x43E00000#32)

/-- The quantiser's scale of a row. -/
def scale {n : Nat} (v : Fin n → EReal) : EReal := scaleOf (amax v)

/-- The kernels' and the references' choice of a scale, at an index. -/
theorem select_scale {s : Shape} (v : FVec Ideal s .f32) (i : s.Idx) :
    select (cmpf .oeq v (broadcast s (Scalar.ofBits .f32 0x00000000#32))) (broadcast s (Scalar.ofBits .f32 0x3F800000#32))
      (divf v (broadcast s (Scalar.ofBits .f32 0x43E00000#32))) i = scaleOf (v i) := by
  unfold scaleOf
  pointwise

/-- A value divided by a scale and clipped to [-448, 448]. -/
def codeOf (v s : EReal) : EReal :=
  min (Ideal.ofBits .f32 0x43E00000#32) (max (Ideal.ofBits .f32 0xC3E00000#32) (Ideal.div v s))

/-- The quantised entry `k` of a row: the entry divided by the row's scale and clipped. -/
def code {n : Nat} (v : Fin n → EReal) (k : Fin n) : EReal := codeOf (v k) (scale v)

/-- The kernels' and the references' division and clipping, at an index. -/
theorem clip_div {s : Shape} (v w : FVec Ideal s .f32) (h : FTy.bits .fp8e4m3 < FTy.bits .f32) (i : s.Idx) :
    truncf .fp8e4m3 (minimumf (broadcast s (Scalar.ofBits .f32 0x43E00000#32))
      (maximumf (broadcast s (Scalar.ofBits .f32 0xC3E00000#32)) (divf v w))) h i = codeOf (v i) (w i) := by
  unfold codeOf
  pointwise

end Cert.Row
end
-- ==== Proof.Norm.Block.lean ====
module
public import proofs.«01_k».proof.Proof.Gen.NormIdeal.Frame
public import proofs.«01_k».proof.Proof.Row.Defs
public import Idealize.ShloMosaic.Lib.Pipeline.ValueKit.Geometry
public import Idealize.ShloMosaic.Lib.Pipeline.ValueKit.Acc
@[expose] public section

/-! What one grid point of the norm kernel writes into its three output blocks, entry by entry. -/

set_option maxRecDepth 16384
noncomputable section
namespace Cert.NormEq
open Idealize.ShloMosaic Cert.NormIdeal Cert.NormIdeal.Gen
open scoped BigOperators

/-- Row `r` of a block's normed values. -/
def row (x0 : Vec Ideal S128x5120 .bf16) (x1 : Vec Ideal S1x5120 .f32) (r : Fin 128) : Fin 5120 → EReal :=
  Row.nrm (fun k => x0 (ix2 r k)) (fun k => x1 (ix2 0 k))

/-- The block's normed values. -/
theorem pay2_apply (x0 : Vec Ideal S128x5120 .bf16) (x1 : Vec Ideal S1x5120 .f32) (r : Fin 128) (k : Fin 5120) :
    k0_pay2 x0 x1 (ix2 r k) = row x0 x1 r k := by
  unfold k0_pay2 row Row.nrm
  pointwise

/-- The block's row scales. -/
theorem pay3_apply (x0 : Vec Ideal S128x5120 .bf16) (x1 : Vec Ideal S1x5120 .f32) (r : Fin 128) :
    k0_pay3 x0 x1 (ix2 r 0) = Row.scale (row x0 x1 r) := by
  unfold k0_pay3 Row.scale
  refine (Row.select_scale _ _).trans (congrArg _ ?_)
  unfold Row.amax
  pointwise [pay2_apply]

/-- The block's codes. -/
theorem pay4_apply (x0 : Vec Ideal S128x5120 .bf16) (x1 : Vec Ideal S1x5120 .f32) (r : Fin 128) (k : Fin 5120) :
    k0_pay4 x0 x1 (ix2 r k) = Row.code (row x0 x1 r) k := by
  unfold k0_pay4 Row.code
  refine (Row.clip_div _ _ _ _).trans (congrArg₂ _ ?_ ?_)
  · exact pay2_apply x0 x1 r k
  · pointwise [pay3_apply]

/-- The block's scales, as a column spread over the lanes. -/
theorem pay5_apply (x0 : Vec Ideal S128x5120 .bf16) (x1 : Vec Ideal S1x5120 .f32) (r l : Fin 128) :
    k0_pay5 x0 x1 (ix2 r l) = Row.scale (row x0 x1 r) := by
  unfold k0_pay5
  pointwise [pay3_apply]

/-- The block's scales, as a row. -/
theorem pay6_apply (x0 : Vec Ideal S128x5120 .bf16) (x1 : Vec Ideal S1x5120 .f32) (i : S1x1x128.Idx) :
    k0_pay1 (k0_pay6 x0 x1) i = Row.scale (row x0 x1 (i 2)) := by
  unfold k0_pay1 k0_pay6
  pointwise [pay3_apply]
theorem hz2 : (![0, 0] : Fin 2 → Nat) = fun _ => 0 := funext fun a => by fin_cases a <;> rfl
theorem hz3 : (![0, 0, 0] : Fin 3 → Nat) = fun _ => 0 := funext fun a => by fin_cases a <;> rfl

/-- The block of codes a grid point leaves. -/
theorem out2_apply (x0 : Vec Ideal S128x5120 .bf16) (x1 : Vec Ideal S1x5120 .f32) (y : S128x5120.Idx) :
    out0_2 x0 x1 y = Row.code (row x0 x1 (y 0)) (y 1) := by
  unfold out0_2
  rw [View.canon_unit_zero hz2, View.ld_unit_zero (S := S128x5120) hz2 _ x0, View.ld_unit_zero (S := S1x5120) hz2 _ x1]
  exact (congrArg _ (eq_ix2 y)).trans (pay4_apply x0 x1 _ _)

/-- The block of scales a grid point leaves, as a column spread over the lanes. -/
theorem out3_apply (x0 : Vec Ideal S128x5120 .bf16) (x1 : Vec Ideal S1x5120 .f32) (y : S128x128.Idx) :
    out0_3 x0 x1 y = Row.scale (row x0 x1 (y 0)) := by
  unfold out0_3
  rw [View.canon_unit_zero hz2, View.ld_unit_zero (S := S128x5120) hz2 _ x0, View.ld_unit_zero (S := S1x5120) hz2 _ x1]
  exact (congrArg _ (eq_ix2 y)).trans (pay5_apply x0 x1 _ _)

/-- The block of scales a grid point leaves, as a row. -/
theorem out4_apply (x0 : Vec Ideal S128x5120 .bf16) (x1 : Vec Ideal S1x5120 .f32) (y : S1x1x128.Idx) :
    out0_4 x0 x1 y = Row.scale (row x0 x1 (y 2)) := by
  unfold out0_4
  rw [View.canon_unit_zero hz3, View.ld_unit_zero (S := S128x5120) hz2 _ x0, View.ld_unit_zero (S := S1x5120) hz2 _ x1]
  exact pay6_apply x0 x1 y

end Cert.NormEq

end
-- ==== Proof.Norm.RefRun.lean ====
module

public import proofs.«01_k».proof.Proof.Gen.NormRefIdeal.Frame
public import Idealize.ShloMosaic.Lib.Pipeline.Value

@[expose] public section

/-! The reference's run, read: its one grid point stages whole arrays, so each result array after the run is the value its
one store puts there, of the argument arrays. -/

noncomputable section

namespace Cert.NormRefRun

open Cert.NormRefIdeal Cert.NormRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1792x5120.Idx) : ((cfg0.win 0).blk t).view.emb j = j := by
  obtain ⟨e0, e1⟩ := idx_zero0 t
  funext a; apply Fin.ext
  match a with
  | ⟨0, _⟩ => show win0_0.index t (0 : Fin 2) * 1792 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x5120.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 5120 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1792x5120.Idx) : ((cfg0.win 2).blk t).view.emb j = j := by
  obtain ⟨e0, e1⟩ := idx_zero2 t
  funext a; apply Fin.ext
  match a with
  | ⟨0, _⟩ => show win0_2.index t (0 : Fin 2) * 1792 + 1 * (j 0).val = (j 0).val; omega
  | ⟨1, _⟩ => show win0_2.index t (1 : Fin 2) * 5120 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1792x128.Idx) : ((cfg0.win 3).blk t).view.emb j = j := by
  obtain ⟨e0, e1⟩ := idx_zero3 t
  funext a; apply Fin.ext
  match a with
  | ⟨0, _⟩ => show win0_3.index t (0 : Fin 2) * 1792 + 1 * (j 0).val = (j 0).val; omega
  | ⟨1, _⟩ => show win0_3.index t (1 : Fin 2) * 128 + 1 * (j 1).val = (j 1).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S14x1x128.Idx) : ((cfg0.win 4).blk t).view.emb j = j := by
  obtain ⟨e0, e1, e2⟩ := idx_zero4 t
  funext a; apply Fin.ext
  match a with
  | ⟨0, _⟩ => show win0_4.index t (0 : Fin 3) * 14 + 1 * (j 0).val = (j 0).val; omega
  | ⟨1, _⟩ => show win0_4.index t (1 : Fin 3) * 1 + 1 * (j 1).val = (j 1).val; omega
  | ⟨2, _⟩ => show win0_4.index t (2 : Fin 3) * 128 + 1 * (j 2).val = (j 2).val; omega

/-! ### Output window 2: the array after the run -/

/-- What the window's array ends holding: `out0_2` applied to the argument arrays in place of the input blocks (a value that the
    frame states apart, `kK_payN a…`, keeps its loads inside its own definition). -/
abbrev G2 (a0 : Vec F S1792x5120 .bf16) (a1 : Vec F S1x5120 .f32) : Vec F S1792x5120 .fp8e4m3 :=
  k0_pay3 a0 a1

/-- A load of the whole of a block reads the block, and the one store through the whole rectangle leaves its payload. -/
theorem out2_eq (a0 : Vec F S1792x5120 .bf16) (a1 : Vec F S1x5120 .f32) : out0_2 (F := F) a0 a1 = G2 a0 a1 := by
  unfold out0_2
  rw [View.canon_unit_zero hz2, View.ld_unit_zero (S := S1792x5120) hz0 _ a0, View.ld_unit_zero (S := S1x5120) hz1 _ a1]

/-- Cutting the point's block out of `X` and reading `X` through the block's view give the same. -/
theorem cut2_eq (t : Fin cfg0.N) (X : Vec F S1792x5120 .fp8e4m3) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S1792x5120.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S1792x5120 .bf16) (a1 : Vec F S1x5120 .f32) : Vec F S1792x128 .f32 :=
  k0_pay4 a0 a1

/-- A load of the whole of a block reads the block, and the one store through the whole rectangle leaves its payload. -/
theorem out3_eq (a0 : Vec F S1792x5120 .bf16) (a1 : Vec F S1x5120 .f32) : out0_3 (F := F) a0 a1 = G3 a0 a1 := by
  unfold out0_3
  rw [View.canon_unit_zero hz3, View.ld_unit_zero (S := S1792x5120) hz0 _ a0, View.ld_unit_zero (S := S1x5120) hz1 _ a1]

/-- Cutting the point's block out of `X` and reading `X` through the block's view give the same. -/
theorem cut3_eq (t : Fin cfg0.N) (X : Vec F S1792x128 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S1792x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S1792x5120 .bf16) (a1 : Vec F S1x5120 .f32) : Vec F S14x1x128 .f32 :=
  k0_pay5 a0 a1

/-- A load of the whole of a block reads the block, and the one store through the whole rectangle leaves its payload. -/
theorem out4_eq (a0 : Vec F S1792x5120 .bf16) (a1 : Vec F S1x5120 .f32) : out0_4 (F := F) a0 a1 = G4 a0 a1 := by
  unfold out0_4
  rw [View.canon_unit_zero hz4, View.ld_unit_zero (S := S1792x5120) hz0 _ a0, View.ld_unit_zero (S := S1x5120) hz1 _ a1]

/-- Cutting the point's block out of `X` and reading `X` through the block's view give the same. -/
theorem cut4_eq (t : Fin cfg0.N) (X : Vec F S14x1x128 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S14x1x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.NormRefRun

end
-- ==== Proof.Norm.Array.lean ====
module
public import proofs.«01_k».proof.Proof.Norm.Block
public import proofs.«01_k».proof.Proof.Norm.RefRun
@[expose] public section

/-! The three result arrays of the norm kernel, and the reference's, are the same functions of the arguments. -/

set_option maxRecDepth 16384
noncomputable section
namespace Cert.NormEq
open Idealize.ShloMosaic Idealize.ShloMosaic.TcCoe Cert.NormIdeal Cert.NormIdeal.Gen
open scoped BigOperators

/-- Row `r` of the normed values. -/
def N (X : S1792x5120.Idx → EReal) (w : S1x5120.Idx → EReal) (r : Fin 1792) : Fin 5120 → EReal :=
  Row.nrm (fun k => X (ix2 r k)) (fun k => w (ix2 0 k))

/-- The codes. -/
def Y2 (X : S1792x5120.Idx → EReal) (w : S1x5120.Idx → EReal) : S1792x5120.Idx → EReal :=
  fun i => Row.code (N X w (i 0)) (i 1)

/-- The scales as a column, spread over 128 lanes. -/
def Y3 (X : S1792x5120.Idx → EReal) (w : S1x5120.Idx → EReal) : S1792x128.Idx → EReal :=
  fun i => Row.scale (N X w (i 0))

/-- The row of the column of 1792 scales that entry `i` of the 14 rows of 128 holds. -/
def at14 (i : S14x1x128.Idx) : Fin 1792 :=
  ⟨(i 0).val * 128 + (i 2).val, by
    have h0 : (i 0).val < 14 := (i 0).isLt
    have h2 : (i 2).val < 128 := (i 2).isLt
    omega⟩

/-- The scales as 14 rows of 128. -/
def Y4 (X : S1792x5120.Idx → EReal) (w : S1x5120.Idx → EReal) : S14x1x128.Idx → EReal :=
  fun i => Row.scale (N X w (at14 i))

section Reference
open Cert.NormRefIdeal.Gen

/-- The reference's normed values. -/
theorem ref_pay1 (X : Vec Ideal S1792x5120 .bf16) (w : Vec Ideal S1x5120 .f32) (r : Fin 1792) (k : Fin 5120) :
    Cert.NormRefIdeal.Gen.k0_pay1 X w (ix2 r k) = N X w r k := by
  unfold Cert.NormRefIdeal.Gen.k0_pay1 N Row.nrm
  pointwise

/-- The reference's scales. -/
theorem ref_pay2 (X : Vec Ideal S1792x5120 .bf16) (w : Vec Ideal S1x5120 .f32) (r : Fin 1792) :
    Cert.NormRefIdeal.Gen.k0_pay2 X w (ix2 r 0) = Row.scale (N X w r) := by
  unfold Cert.NormRefIdeal.Gen.k0_pay2 Row.scale
  refine (Row.select_scale _ _).trans (congrArg _ ?_)
  unfold Row.amax
  pointwise [ref_pay1]

/-- The reference's codes. -/
theorem ref_eq2 (X : Vec Ideal S1792x5120 .bf16) (w : Vec Ideal S1x5120 .f32) : Cert.NormRefRun.G2 X w = Y2 X w := by
  funext i
  unfold Cert.NormRefRun.G2 Cert.NormRefIdeal.Gen.k0_pay3 Y2 Row.code
  refine (Row.clip_div _ _ _ _).trans (congrArg₂ _ ?_ ?_)
  · exact (congrArg _ (eq_ix2 i)).trans (ref_pay1 X w _ _)
  · pointwise [ref_pay2]

/-- The reference's column of scales. -/
theorem ref_eq3 (X : Vec Ideal S1792x5120 .bf16) (w : Vec Ideal S1x5120 .f32) : Cert.NormRefRun.G3 X w = Y3 X w := by
  funext i
  unfold Cert.NormRefRun.G3 Cert.NormRefIdeal.Gen.k0_pay4 Y3
  pointwise [ref_pay2]

/-- The reference's rows of scales. -/
theorem ref_eq4 (X : Vec Ideal S1792x5120 .bf16) (w : Vec Ideal S1x5120 .f32) : Cert.NormRefRun.G4 X w = Y4 X w := by
  funext i
  unfold Cert.NormRefRun.G4 Cert.NormRefIdeal.Gen.k0_pay5 Y4
  rw [← ref_pay2]
  pointwise
  rfl
end Reference

variable (m : (ℓ : Loc nD τ sig) → Buf (Elt Ideal) ℓ)

/-- The block of each window at a grid point: 128 rows of the input and of the results, the whole of the weights. -/
theorem idx_facts : ∀ t : Fin cfg0.N,
    win0_0.index t = ![t.val, 0] ∧ win0_1.index t = ![0, 0] ∧ win0_2.index t = ![t.val, 0]
    ∧ win0_3.index t = ![t.val, 0] ∧ win0_4.index t = ![t.val, 0, 0] :=
  (by decide +kernel : ∀ t : Fin grid0.N, _)

/-- Row `r` of grid point `t` is row `128 t + r` of the array. -/
theorem row_eq (c : Dev nD) (t : Fin cfg0.N) (r : Fin 128) (q : Fin 1792) (hq : q.val = t.val * 128 + r.val) :
    row (iblk m c 0 t) (iblk m c 1 t) r
      = N (m ((c : Thread nD τ).loc main_arg0)) (m ((c : Thread nD τ).loc main_arg1)) q := by
  obtain ⟨e0, e1, e2, e3, e4⟩ := idx_facts t
  unfold row N
  blk_simp [iblk]
  rw [V_main_arg0, V_main_arg1]
  refine congrArg₂ _ (funext fun k => congrArg _ ?_) (funext fun k => congrArg _ ?_)
  all_goals blk_ext [e0, e1]

/-- The kernel's codes. -/
theorem kernel_eq2 (c : Dev nD) :
    (dats m 0 c).arrAt 2 cfg0.N = Y2 (m ((c : Thread nD τ).loc main_arg0)) (m ((c : Thread nD τ).loc main_arg1)) := by
  refine (dats m 0 c).arrAt_eq_of_covers 2 _ (by decide +kernel) fun t hf y => ?_
  obtain ⟨e0, e1, e2, e3, e4⟩ := idx_facts t
  blk_simp
  rw [after0_2, out2_apply]
  unfold Y2
  have h0 : win0_2.index t (0 : Fin 2) = t.val := congrFun e2 0
  have h1 : win0_2.index t (1 : Fin 2) = 0 := congrFun e2 1
  refine congrArg₂ Row.code (row_eq m c t _ _ ?_) (Fin.ext ?_)
  · show win0_2.index t (0 : Fin 2) * 128 + 1 * (y 0).val = t.val * 128 + (y 0).val
    omega
  · show (y 1).val = win0_2.index t (1 : Fin 2) * 5120 + 1 * (y 1).val
    omega

/-- The kernel's column of scales. -/
theorem kernel_eq3 (c : Dev nD) :
    (dats m 0 c).arrAt 3 cfg0.N = Y3 (m ((c : Thread nD τ).loc main_arg0)) (m ((c : Thread nD τ).loc main_arg1)) := by
  refine (dats m 0 c).arrAt_eq_of_covers 3 _ (by decide +kernel) fun t hf y => ?_
  obtain ⟨e0, e1, e2, e3, e4⟩ := idx_facts t
  blk_simp
  rw [after0_3, out3_apply]
  unfold Y3
  have h0 : win0_3.index t (0 : Fin 2) = t.val := congrFun e3 0
  refine congrArg Row.scale (row_eq m c t _ _ ?_)
  show win0_3.index t (0 : Fin 2) * 128 + 1 * (y 0).val = t.val * 128 + (y 0).val
  omega

/-- The kernel's rows of scales. -/
theorem kernel_eq4 (c : Dev nD) :
    (dats m 0 c).arrAt 4 cfg0.N = Y4 (m ((c : Thread nD τ).loc main_arg0)) (m ((c : Thread nD τ).loc main_arg1)) := by
  refine (dats m 0 c).arrAt_eq_of_covers 4 _ (by decide +kernel) fun t hf y => ?_
  obtain ⟨e0, e1, e2, e3, e4⟩ := idx_facts t
  blk_simp
  rw [after0_4, out4_apply]
  unfold Y4
  have h0 : win0_4.index t (0 : Fin 3) = t.val := congrFun e4 0
  have h2 : win0_4.index t (2 : Fin 3) = 0 := congrFun e4 2
  refine congrArg Row.scale (row_eq m c t _ _ ?_)
  show (win0_4.index t (0 : Fin 3) * 1 + 1 * (y 0).val) * 128 + (win0_4.index t (2 : Fin 3) * 128 + 1 * (y 2).val)
    = t.val * 128 + (y 2).val
  have hy : (y 0).val < 1 := (y 0).isLt
  omega

end Cert.NormEq

end
-- ==== Proof.Norm.Claim.lean ====
module

public import proofs.«01_k».proof.Defs
public import proofs.«01_k».proof.Proof.Gen.Norm.Frame
public import proofs.«01_k».proof.Proof.Gen.NormIdeal.Value
public import proofs.«01_k».proof.Proof.Norm.Array

@[expose] public section

/-! The equation of the norm kernel with its reference. -/

noncomputable section

namespace Cert.NormEq

open Idealize.ShloMosaic Idealize.ShloMosaic.TcCoe Idealize.SL.Sem

instance : Cert.Norm.Facts := Cert.Norm.Gen.facts
instance : Cert.NormIdeal.Facts := Cert.NormIdeal.Gen.facts
instance : Cert.NormRefIdeal.Facts := Cert.NormRefIdeal.Gen.facts

/-- The norm kernel and the reference, run over the extended reals, end with equal codes, scales and rows of scales. -/
theorem algebraic : algebraic_NormIdeal_NormRefIdeal := by
  intro m g m' g' _ hm
  let X (c : Dev NormIdeal.nD) := m ((c.tc : Thread NormIdeal.nD NormIdeal.τ).loc NormIdeal.main_arg0)
  let w (c : Dev NormIdeal.nD) := m ((c.tc : Thread NormIdeal.nD NormIdeal.τ).loc NormIdeal.main_arg1)
  refine ⟨fun c => Y2 (X c) (w c), fun c => Y3 (X c) (w c), fun c => Y4 (X c) (w c), ?_, ?_⟩
  · refine (θ_run _ _ _).mono (fun r h c => ?_) (NormIdeal.Value.run_blocks (F := Ideal) m g)
    obtain ⟨h2, h3, h4, h⟩ := h c
    exact ⟨h2.trans (kernel_eq2 m c), h3.trans (kernel_eq3 m c), h4.trans (kernel_eq4 m c), h⟩
  · refine (θ_run _ _ _).mono (fun r h c => ?_) (NormRefRun.run (F := Ideal) m' g')
    obtain ⟨h2, h3, h4, h⟩ := h c
    obtain ⟨a0, a1⟩ := hm c
    refine ⟨h2.trans ?_, h3.trans ?_, h4.trans ?_, h⟩
    · rw [ref_eq2]; exact congr (congrArg Y2 a0) a1
    · rw [ref_eq3]; exact congr (congrArg Y3 a0) a1
    · rw [ref_eq4]; exact congr (congrArg Y4 a0) a1

end Cert.NormEq

end
-- ==== Proof.Qkv2.Bits.Runs.lean ====
module

public import proofs.«01_k».proof.Proof.Gen.Qkv2.Launch
public import proofs.«01_k».proof.Proof.Gen.Qkv2.Skeleton
public import proofs.«01_k».proof.Proof.Gen.Qkv2.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv2`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 10 — decided over the grid. -/
theorem hcond0_0 : ∀ t : Fin cfg0.N, cond0_0 (grid0.coords t) ↔ t.val < 10 :=
  (by decide +kernel : ∀ t : Fin grid0.N, cond0_0 (grid0.coords t) ↔ t.val < 10)

/-- The condition of the body's `scf.if` 1 (`k0_h2`), from the grid coordinates (the skeleton's scalar
    chain substituted). -/
abbrev cond0_1 (i : grid0.Coords) : Prop := k0_cond2 i = 1#1
/-- It holds at the points whose coordinates have 10 ≤ i0 and i0 ≤ 11 — decided over the grid. -/
theorem hcond0_1 : ∀ t : Fin cfg0.N, cond0_1 (grid0.coords t) ↔ (10 ≤ t.val % 14 ∧ t.val % 14 ≤ 11) :=
  (by decide +kernel : ∀ t : Fin grid0.N, cond0_1 (grid0.coords t) ↔ (10 ≤ t.val % 14 ∧ t.val % 14 ≤ 11))

/-- The condition of the body's `scf.if` 2 (`k0_h3`), from the grid coordinates (the skeleton's scalar
    chain substituted). -/
abbrev cond0_2 (i : grid0.Coords) : Prop := k0_cond3 i = 1#1
/-- It holds at the points from point 12 on — decided over the grid. -/
theorem hcond0_2 : ∀ t : Fin cfg0.N, cond0_2 (grid0.coords t) ↔ 12 ≤ t.val :=
  (by decide +kernel : ∀ t : Fin grid0.N, cond0_2 (grid0.coords t) ↔ 12 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1792x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1792x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1792x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1792x4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1792x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1792x4 .f32 := win0_11.stage (cfg0.slots t 11)
abbrev hs0_11 (t : Fin cfg0.N) : (ms0_11 t).IsWhole := hstage0_11 ((cfg0.slots t 11).cast nbuf0_11)

end Cert.Qkv2.Gen

end
-- ==== Proof.Qkv2.Bits.RunA.lean ====
module

public import proofs.«01_k».proof.Proof.Qkv2.Bits.Runs

@[expose] public section

-- membership in a rectangle of production extents (`View.cover_of_tiled`): the elaborator's structural look
-- recurses once per coordinate of the long axes
set_option maxRecDepth 16384

noncomputable section

namespace Cert.Qkv2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 not taken: points 0, 1, … 9: 10 of 14): on whole staging memrefs — the inputs' at their contents,
    the FORGOTTEN outputs' (5, 6, 7, 8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : cond0_0 i) (hc1 : ¬cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K := by
    intro E K
    simp only [cc0_qkv2_eq_skeleton]; unfold cc0_qkv2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Qkv2.Gen

end
-- ==== Proof.Qkv2.Bits.RunB.lean ====
module

public import proofs.«01_k».proof.Proof.Qkv2.Bits.RunA

@[expose] public section

-- membership in a rectangle of production extents (`View.cover_of_tiled`): the elaborator's structural look
-- recurses once per coordinate of the long axes
set_option maxRecDepth 16384

noncomputable section

namespace Cert.Qkv2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1112000 in
/-- The body's triple IN CASE B (`scf.if` 0 not taken, `scf.if` 1 taken, `scf.if` 2 not taken: points 10, 11): on whole staging memrefs — the inputs' at their contents,
    the FORGOTTEN outputs' (5, 6, 7, 8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K := by
    intro E K
    simp only [cc0_qkv2_eq_skeleton]; unfold cc0_qkv2_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Qkv2.Gen

end
-- ==== Proof.Qkv2.Bits.RunC.lean ====
module

public import proofs.«01_k».proof.Proof.Qkv2.Bits.RunB

@[expose] public section

-- membership in a rectangle of production extents (`View.cover_of_tiled`): the elaborator's structural look
-- recurses once per coordinate of the long axes
set_option maxRecDepth 16384

noncomputable section

namespace Cert.Qkv2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1112000 in
/-- The body's triple IN CASE C (`scf.if` 0 not taken, `scf.if` 1 not taken, `scf.if` 2 taken: points 12, 13): on whole staging memrefs — the inputs' at their contents,
    the FORGOTTEN outputs' (5, 6, 7, 8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : ¬cond0_1 i) (hc2 : cond0_2 i)
    (x0 : Vec F S1792x5120 .fp8e4m3) (x1 : Vec F S1792x128 .f32) (x2 : Vec F S1792x128 .f32) (x3 : Vec F S5120x512 .fp8e4m3) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K := by
    intro E K
    simp only [cc0_qkv2_eq_skeleton]; unfold cc0_qkv2_skel
    rw [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Qkv2.Gen

end
-- ==== Proof.Qkv2.Bits.Frame.lean ====
module

public import proofs.«01_k».proof.Proof.Qkv2.Bits.RunC
public import Idealize.ShloMosaic.Lib.Claim

@[expose] public section

-- membership in a rectangle of production extents (`View.cover_of_tiled`): the elaborator's structural look
-- recurses once per coordinate of the long axes
set_option maxRecDepth 16384

noncomputable section

namespace Cert.Qkv2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9, 10, 11): nothing reads what the kernel leaves in them, so nothing
    of it is named (Lib/Pipeline/Dat.lean `Dat.toRForget`). -/
def forgets0 : Fin 12 → Bool := fun w => w.val == 5 || w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 14 := lt_of_lt_of_eq t.isLt (show cfg0.N = 14 from N_0)
  by_cases h0 : t.val < 10
  · by_cases h1 : (10 ≤ t.val % 14 ∧ t.val % 14 ≤ 11)
    · exfalso; omega
    · by_cases h2 : 12 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        iintro ⟨H0, H1, H2, H3, H4, H5, H6, H7, H8, H9, H10, H11⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
  · by_cases h1 : (10 ≤ t.val % 14 ∧ t.val % 14 ≤ 11)
    · by_cases h2 : 12 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        iintro ⟨H0, H1, H2, H3, H4, H5, H6, H7, H8, H9, H10, H11⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
    · by_cases h2 : 12 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        iintro ⟨H0, H1, H2, H3, H4, H5, H6, H7, H8, H9, H10, H11⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame, at any `F`: the program runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv2.Gen

end
-- ==== Proof.Qkv2.Ideal.Runs.lean ====
module

public import proofs.«01_k».proof.Proof.Gen.Qkv2Ideal.Launch
public import proofs.«01_k».proof.Proof.Gen.Qkv2Ideal.Frame
public import proofs.«01_k».proof.Proof.Gen.Qkv2Ideal.Skeleton
public import proofs.«01_k».proof.Proof.Gen.Qkv2Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 10 — decided over the grid. -/
theorem hcond0_0 : ∀ t : Fin cfg0.N, cond0_0 (grid0.coords t) ↔ t.val < 10 :=
  (by decide +kernel : ∀ t : Fin grid0.N, cond0_0 (grid0.coords t) ↔ t.val < 10)

/-- The condition of the body's `scf.if` 1 (`k0_h2`), from the grid coordinates (the skeleton's scalar
    chain substituted). -/
abbrev cond0_1 (i : grid0.Coords) : Prop := k0_cond2 i = 1#1
/-- It holds at the points whose coordinates have 10 ≤ i0 and i0 ≤ 11 — decided over the grid. -/
theorem hcond0_1 : ∀ t : Fin cfg0.N, cond0_1 (grid0.coords t) ↔ (10 ≤ t.val % 14 ∧ t.val % 14 ≤ 11) :=
  (by decide +kernel : ∀ t : Fin grid0.N, cond0_1 (grid0.coords t) ↔ (10 ≤ t.val % 14 ∧ t.val % 14 ≤ 11))

/-- The condition of the body's `scf.if` 2 (`k0_h3`), from the grid coordinates (the skeleton's scalar
    chain substituted). -/
abbrev cond0_2 (i : grid0.Coords) : Prop := k0_cond3 i = 1#1
/-- It holds at the points from point 12 on — decided over the grid. -/
theorem hcond0_2 : ∀ t : Fin cfg0.N, cond0_2 (grid0.coords t) ↔ 12 ≤ t.val :=
  (by decide +kernel : ∀ t : Fin grid0.N, cond0_2 (grid0.coords t) ↔ 12 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1792x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1792x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1792x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1792x4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1792x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1792x4 .f32 := win0_11.stage (cfg0.slots t 11)
abbrev hs0_11 (t : Fin cfg0.N) : (ms0_11 t).IsWhole := hstage0_11 ((cfg0.slots t 11).cast nbuf0_11)

end Cert.Qkv2Ideal.Gen

end
-- ==== Proof.Qkv2.Ideal.RunA.lean ====
module

public import proofs.«01_k».proof.Proof.Qkv2.Ideal.Runs

@[expose] public section

-- membership in a rectangle of production extents (`View.cover_of_tiled`): the elaborator's structural look
-- recurses once per coordinate of the long axes
set_option maxRecDepth 16384

noncomputable section

namespace Cert.Qkv2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- What the body's stores leave in each output buffer it writes in this case, as pieces (last first), with the
    proof that the body runs from whole input buffers at their contents and those output buffers at anything to
    a state that has the inputs as they were and the pieces written. -/
noncomputable def kernelRun0_A (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : cond0_0 i) (hc1 : ¬cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    { L5 : List (View.Piece (Elt F) S1792x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_qkv2_eq_skeleton]; unfold cc0_qkv2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Qkv2Ideal.Gen

end
-- ==== Proof.Qkv2.Ideal.RunB.lean ====
module

public import proofs.«01_k».proof.Proof.Qkv2.Ideal.RunA

@[expose] public section

-- membership in a rectangle of production extents (`View.cover_of_tiled`): the elaborator's structural look
-- recurses once per coordinate of the long axes
set_option maxRecDepth 16384

noncomputable section

namespace Cert.Qkv2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- What the body's stores leave in each output buffer it writes in this case, as pieces (last first), with the
    proof that the body runs from whole input buffers at their contents and those output buffers at anything to
    a state that has the inputs as they were and the pieces written. -/
noncomputable def kernelRun0_B (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    Σ' (L6 : List (View.Piece (Elt F) S1792x512 .bf16)), Σ' (L8 : List (View.Piece (Elt F) S1792x512 .fp8e4m3)), { L9 : List (View.Piece (Elt F) S1x1792x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L6) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_qkv2_eq_skeleton]; unfold cc0_qkv2_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H8]; · iexists _; iexact H8
    iexists _; iexact H9

end Cert.Qkv2Ideal.Gen

end
-- ==== Proof.Qkv2.Ideal.RunC.lean ====
module

public import proofs.«01_k».proof.Proof.Qkv2.Ideal.RunB

@[expose] public section

-- membership in a rectangle of production extents (`View.cover_of_tiled`): the elaborator's structural look
-- recurses once per coordinate of the long axes
set_option maxRecDepth 16384

noncomputable section

namespace Cert.Qkv2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- What the body's stores leave in each output buffer it writes in this case, as pieces (last first), with the
    proof that the body runs from whole input buffers at their contents and those output buffers at anything to
    a state that has the inputs as they were and the pieces written. -/
noncomputable def kernelRun0_C (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : ¬cond0_1 i) (hc2 : cond0_2 i)
    (x0 : Vec F S1792x5120 .fp8e4m3) (x1 : Vec F S1792x128 .f32) (x2 : Vec F S1792x128 .f32) (x3 : Vec F S5120x512 .fp8e4m3) (x4 : Vec F S1x512 .f32) :
    Σ' (L7 : List (View.Piece (Elt F) S1792x512 .bf16)), Σ' (L10 : List (View.Piece (Elt F) S1792x512 .fp8e4m3)), { L11 : List (View.Piece (Elt F) S1x1792x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L7) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_qkv2 i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_qkv2_eq_skeleton]; unfold cc0_qkv2_skel
    rw [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H7]; · iexists _; iexact H7
    isplitl [H10]; · iexists _; iexact H10
    iexists _; iexact H11

end Cert.Qkv2Ideal.Gen

end
-- ==== Proof.Qkv2.Block.lean ====
module

public import proofs.«01_k».proof.Proof.Gen.Qkv2Ideal.Skeleton
public import Idealize.ShloMosaic.Lib.Pipeline.FrameBody

@[expose] public section

/-! What the second fused projection's body computes of 256 rows and one head of 128 columns, and the lists of blocks it
    stores at one grid point. -/

set_option maxRecDepth 16384

noncomputable section

namespace Cert.Qkv2Eq

open Idealize.ShloMosaic Cert.Qkv2Ideal Cert.Qkv2Ideal.Gen

variable {F : FTy → Type} [FloatOps F]

/-- 256 rows of codes times the weight block, one head's 128 columns of it from column `c` on, times the rows' scales and
    the columns' scales. -/
def scaled (v : Vec F S256x5120 .fp8e4m3) (w : Vec F S5120x512 .fp8e4m3) (xs : Vec F S256x128 .f32) (ws : Vec F S1x128 .f32)
    (c : ℕ) (h : S256x512.Slices ![0, c] S256x128) : FVec F S256x128 .f32 :=
  mulf (mulf (extractStridedSlice S256x128 ![0, c]
      (matmul dot_S256x5120_S5120x512_S256x512_1_0_0_1_n_n none v w (constant S256x512 .f32 0x00000000#32)) h)
    (shapeCast S256x128 xs shapeCasts_S256x128_S256x128)) (broadcastTo S256x128 ws broadcasts_S1x128_S256x128)

/-- A block of `q`: the head times the temperature. -/
def qOf (t : FVec F S256x128 .f32) (temp : Vec F S256x128 .f32) : FVec F S256x128 .bf16 :=
  truncf .bf16 (mulf t (shapeCast S256x128 temp shapeCasts_S256x128_S256x128)) bitsLt_bf16_f32

/-- A block of `k` or `v`: the head in the narrow format. -/
def kvOf (t : FVec F S256x128 .f32) : FVec F S256x128 .bf16 := truncf .bf16 t bitsLt_bf16_f32

/-- The largest absolute value of each row of the head. -/
def amaxOf (t : FVec F S256x128 .f32) : FVec F S256x1 .f32 :=
  shapeCast S256x1 (multiReduction .maximumf [1] S256 (absf t) 0xFF800000#32 reduces_S256x128_S256 (.inl rfl) rfl)
    shapeCasts_S256_S256x1

/-- The scale of each row of the head. -/
def scaleOf (t : FVec F S256x128 .f32) : FVec F S256x1 .f32 :=
  select (cmpf .oeq (amaxOf t) (broadcast S256x1 (Scalar.ofBits .f32 0x00000000#32)))
    (broadcast S256x1 (Scalar.ofBits .f32 0x3F800000#32))
    (divf (amaxOf t) (broadcast S256x1 (Scalar.ofBits .f32 0x43E00000#32)))

/-- The codes of the head. -/
def codesOf (t : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (divf t (broadcastTo S256x128 (scaleOf t) broadcasts_S256x1_S256x128)))) bitsLt_fp8e4m3_f32

/-- The head's scales put in lane `l` of four lanes. -/
def putLane (l : BitVec 32) (t : FVec F S256x128 .f32) (prev : FVec F S256x4 .f32) : FVec F S256x4 .f32 :=
  select (cmpi .eq (iota .tc S256x4 32 [1] iota_S256x4_d1_w32) (broadcast S256x4 l))
    (broadcastTo S256x4 (shapeCast S256x1 (scaleOf t) shapeCasts_S256x1_S256x1) broadcasts_S256x1_S256x4) prev

/-- The scales of four heads, one a lane. -/
def scalesOf (t0 t1 t2 t3 : FVec F S256x128 .f32) : FVec F S1x256x4 .f32 :=
  shapeCast S1x256x4 (putLane 3#32 t3 (putLane 2#32 t2 (putLane 1#32 t1 (putLane 0#32 t0
    (broadcast S256x4 (Scalar.ofBits .f32 0x00000000#32)))))) shapeCasts_S256x4_S1x256x4

section Lists
variable (x0 : Vec F S1792x5120 .fp8e4m3) (x1 x2 : Vec F S1792x128 .f32) (x3 : Vec F S5120x512 .fp8e4m3) (x4 : Vec F S1x512 .f32)

/-- The head from column `c` on of the 256 rows from row `r` on. -/
def head (r c : ℕ) (h0 : ∀ a, (![r, 0] : Fin 2 → ℕ) a + S256x5120.size a ≤ S1792x5120.size a)
    (h1 : ∀ a, (![r, 0] : Fin 2 → ℕ) a + S256x128.size a ≤ S1792x128.size a)
    (h4 : ∀ a, (![0, c] : Fin 2 → ℕ) a + S1x128.size a ≤ S1x512.size a)
    (hs : S256x512.Slices ![0, c] S256x128) : FVec F S256x128 .f32 :=
  scaled (View.ld x0 (Rect.unit (s := S1792x5120) ![r, 0] S256x5120.size h0))
    x3
    (View.ld x1 (Rect.unit (s := S1792x128) ![r, 0] S256x128.size h1))
    (View.ld x4 (Rect.unit (s := S1x512) ![0, c] S1x128.size h4)) c hs

/-- The head of rows 0 to 255 and columns 0 to 127. -/
abbrev head_0_0 := head x0 x1 x3 x4 0 0 inb_S1792x5120_S256x5120_0_0 inb_S1792x128_S256x128_0_0 inb_S1x512_S1x128_0_0 slices_S256x512_o0_0_S256x128
/-- The head of rows 0 to 255 and columns 128 to 255. -/
abbrev head_0_128 := head x0 x1 x3 x4 0 128 inb_S1792x5120_S256x5120_0_0 inb_S1792x128_S256x128_0_0 inb_S1x512_S1x128_0_128 slices_S256x512_o0_128_S256x128
/-- The head of rows 0 to 255 and columns 256 to 383. -/
abbrev head_0_256 := head x0 x1 x3 x4 0 256 inb_S1792x5120_S256x5120_0_0 inb_S1792x128_S256x128_0_0 inb_S1x512_S1x128_0_256 slices_S256x512_o0_256_S256x128
/-- The head of rows 0 to 255 and columns 384 to 511. -/
abbrev head_0_384 := head x0 x1 x3 x4 0 384 inb_S1792x5120_S256x5120_0_0 inb_S1792x128_S256x128_0_0 inb_S1x512_S1x128_0_384 slices_S256x512_o0_384_S256x128
/-- The head of rows 256 to 511 and columns 0 to 127. -/
abbrev head_256_0 := head x0 x1 x3 x4 256 0 inb_S1792x5120_S256x5120_256_0 inb_S1792x128_S256x128_256_0 inb_S1x512_S1x128_0_0 slices_S256x512_o0_0_S256x128
/-- The head of rows 256 to 511 and columns 128 to 255. -/
abbrev head_256_128 := head x0 x1 x3 x4 256 128 inb_S1792x5120_S256x5120_256_0 inb_S1792x128_S256x128_256_0 inb_S1x512_S1x128_0_128 slices_S256x512_o0_128_S256x128
/-- The head of rows 256 to 511 and columns 256 to 383. -/
abbrev head_256_256 := head x0 x1 x3 x4 256 256 inb_S1792x5120_S256x5120_256_0 inb_S1792x128_S256x128_256_0 inb_S1x512_S1x128_0_256 slices_S256x512_o0_256_S256x128
/-- The head of rows 256 to 511 and columns 384 to 511. -/
abbrev head_256_384 := head x0 x1 x3 x4 256 384 inb_S1792x5120_S256x5120_256_0 inb_S1792x128_S256x128_256_0 inb_S1x512_S1x128_0_384 slices_S256x512_o0_384_S256x128
/-- The head of rows 512 to 767 and columns 0 to 127. -/
abbrev head_512_0 := head x0 x1 x3 x4 512 0 inb_S1792x5120_S256x5120_512_0 inb_S1792x128_S256x128_512_0 inb_S1x512_S1x128_0_0 slices_S256x512_o0_0_S256x128
/-- The head of rows 512 to 767 and columns 128 to 255. -/
abbrev head_512_128 := head x0 x1 x3 x4 512 128 inb_S1792x5120_S256x5120_512_0 inb_S1792x128_S256x128_512_0 inb_S1x512_S1x128_0_128 slices_S256x512_o0_128_S256x128
/-- The head of rows 512 to 767 and columns 256 to 383. -/
abbrev head_512_256 := head x0 x1 x3 x4 512 256 inb_S1792x5120_S256x5120_512_0 inb_S1792x128_S256x128_512_0 inb_S1x512_S1x128_0_256 slices_S256x512_o0_256_S256x128
/-- The head of rows 512 to 767 and columns 384 to 511. -/
abbrev head_512_384 := head x0 x1 x3 x4 512 384 inb_S1792x5120_S256x5120_512_0 inb_S1792x128_S256x128_512_0 inb_S1x512_S1x128_0_384 slices_S256x512_o0_384_S256x128
/-- The head of rows 768 to 1023 and columns 0 to 127. -/
abbrev head_768_0 := head x0 x1 x3 x4 768 0 inb_S1792x5120_S256x5120_768_0 inb_S1792x128_S256x128_768_0 inb_S1x512_S1x128_0_0 slices_S256x512_o0_0_S256x128
/-- The head of rows 768 to 1023 and columns 128 to 255. -/
abbrev head_768_128 := head x0 x1 x3 x4 768 128 inb_S1792x5120_S256x5120_768_0 inb_S1792x128_S256x128_768_0 inb_S1x512_S1x128_0_128 slices_S256x512_o0_128_S256x128
/-- The head of rows 768 to 1023 and columns 256 to 383. -/
abbrev head_768_256 := head x0 x1 x3 x4 768 256 inb_S1792x5120_S256x5120_768_0 inb_S1792x128_S256x128_768_0 inb_S1x512_S1x128_0_256 slices_S256x512_o0_256_S256x128
/-- The head of rows 768 to 1023 and columns 384 to 511. -/
abbrev head_768_384 := head x0 x1 x3 x4 768 384 inb_S1792x5120_S256x5120_768_0 inb_S1792x128_S256x128_768_0 inb_S1x512_S1x128_0_384 slices_S256x512_o0_384_S256x128
/-- The head of rows 1024 to 1279 and columns 0 to 127. -/
abbrev head_1024_0 := head x0 x1 x3 x4 1024 0 inb_S1792x5120_S256x5120_1024_0 inb_S1792x128_S256x128_1024_0 inb_S1x512_S1x128_0_0 slices_S256x512_o0_0_S256x128
/-- The head of rows 1024 to 1279 and columns 128 to 255. -/
abbrev head_1024_128 := head x0 x1 x3 x4 1024 128 inb_S1792x5120_S256x5120_1024_0 inb_S1792x128_S256x128_1024_0 inb_S1x512_S1x128_0_128 slices_S256x512_o0_128_S256x128
/-- The head of rows 1024 to 1279 and columns 256 to 383. -/
abbrev head_1024_256 := head x0 x1 x3 x4 1024 256 inb_S1792x5120_S256x5120_1024_0 inb_S1792x128_S256x128_1024_0 inb_S1x512_S1x128_0_256 slices_S256x512_o0_256_S256x128
/-- The head of rows 1024 to 1279 and columns 384 to 511. -/
abbrev head_1024_384 := head x0 x1 x3 x4 1024 384 inb_S1792x5120_S256x5120_1024_0 inb_S1792x128_S256x128_1024_0 inb_S1x512_S1x128_0_384 slices_S256x512_o0_384_S256x128
/-- The head of rows 1280 to 1535 and columns 0 to 127. -/
abbrev head_1280_0 := head x0 x1 x3 x4 1280 0 inb_S1792x5120_S256x5120_1280_0 inb_S1792x128_S256x128_1280_0 inb_S1x512_S1x128_0_0 slices_S256x512_o0_0_S256x128
/-- The head of rows 1280 to 1535 and columns 128 to 255. -/
abbrev head_1280_128 := head x0 x1 x3 x4 1280 128 inb_S1792x5120_S256x5120_1280_0 inb_S1792x128_S256x128_1280_0 inb_S1x512_S1x128_0_128 slices_S256x512_o0_128_S256x128
/-- The head of rows 1280 to 1535 and columns 256 to 383. -/
abbrev head_1280_256 := head x0 x1 x3 x4 1280 256 inb_S1792x5120_S256x5120_1280_0 inb_S1792x128_S256x128_1280_0 inb_S1x512_S1x128_0_256 slices_S256x512_o0_256_S256x128
/-- The head of rows 1280 to 1535 and columns 384 to 511. -/
abbrev head_1280_384 := head x0 x1 x3 x4 1280 384 inb_S1792x5120_S256x5120_1280_0 inb_S1792x128_S256x128_1280_0 inb_S1x512_S1x128_0_384 slices_S256x512_o0_384_S256x128
/-- The head of rows 1536 to 1791 and columns 0 to 127. -/
abbrev head_1536_0 := head x0 x1 x3 x4 1536 0 inb_S1792x5120_S256x5120_1536_0 inb_S1792x128_S256x128_1536_0 inb_S1x512_S1x128_0_0 slices_S256x512_o0_0_S256x128
/-- The head of rows 1536 to 1791 and columns 128 to 255. -/
abbrev head_1536_128 := head x0 x1 x3 x4 1536 128 inb_S1792x5120_S256x5120_1536_0 inb_S1792x128_S256x128_1536_0 inb_S1x512_S1x128_0_128 slices_S256x512_o0_128_S256x128
/-- The head of rows 1536 to 1791 and columns 256 to 383. -/
abbrev head_1536_256 := head x0 x1 x3 x4 1536 256 inb_S1792x5120_S256x5120_1536_0 inb_S1792x128_S256x128_1536_0 inb_S1x512_S1x128_0_256 slices_S256x512_o0_256_S256x128
/-- The head of rows 1536 to 1791 and columns 384 to 511. -/
abbrev head_1536_384 := head x0 x1 x3 x4 1536 384 inb_S1792x5120_S256x5120_1536_0 inb_S1792x128_S256x128_1536_0 inb_S1x512_S1x128_0_384 slices_S256x512_o0_384_S256x128

/-- The blocks of `q` stored at one grid point, last first. -/
def qPieces : List (View.Piece (Elt F) S1792x512 .bf16) :=
  [⟨Rect.unit (s := S1792x512) ![1536, 384] S256x128.size inb_S1792x512_S256x128_1536_384, qOf (head_1536_384 x0 x1 x3 x4) (View.ld x2 (Rect.unit (s := S1792x128) ![1536, 0] S256x128.size inb_S1792x128_S256x128_1536_0))⟩,
   ⟨Rect.unit (s := S1792x512) ![1536, 256] S256x128.size inb_S1792x512_S256x128_1536_256, qOf (head_1536_256 x0 x1 x3 x4) (View.ld x2 (Rect.unit (s := S1792x128) ![1536, 0] S256x128.size inb_S1792x128_S256x128_1536_0))⟩,
   ⟨Rect.unit (s := S1792x512) ![1536, 128] S256x128.size inb_S1792x512_S256x128_1536_128, qOf (head_1536_128 x0 x1 x3 x4) (View.ld x2 (Rect.unit (s := S1792x128) ![1536, 0] S256x128.size inb_S1792x128_S256x128_1536_0))⟩,
   ⟨Rect.unit (s := S1792x512) ![1536, 0] S256x128.size inb_S1792x512_S256x128_1536_0, qOf (head_1536_0 x0 x1 x3 x4) (View.ld x2 (Rect.unit (s := S1792x128) ![1536, 0] S256x128.size inb_S1792x128_S256x128_1536_0))⟩,
   ⟨Rect.unit (s := S1792x512) ![1280, 384] S256x128.size inb_S1792x512_S256x128_1280_384, qOf (head_1280_384 x0 x1 x3 x4) (View.ld x2 (Rect.unit (s := S1792x128) ![1280, 0] S256x128.size inb_S1792x128_S256x128_1280_0))⟩,
   ⟨Rect.unit (s := S1792x512) ![1280, 256] S256x128.size inb_S1792x512_S256x128_1280_256, qOf (head_1280_256 x0 x1 x3 x4) (View.ld x2 (Rect.unit (s := S1792x128) ![1280, 0] S256x128.size inb_S1792x128_S256x128_1280_0))⟩,
   ⟨Rect.unit (s := S1792x512) ![1280, 128] S256x128.size inb_S1792x512_S256x128_1280_128, qOf (head_1280_128 x0 x1 x3 x4) (View.ld x2 (Rect.unit (s := S1792x128) ![1280, 0] S256x128.size inb_S1792x128_S256x128_1280_0))⟩,
   ⟨Rect.unit (s := S1792x512) ![1280, 0] S256x128.size inb_S1792x512_S256x128_1280_0, qOf (head_1280_0 x0 x1 x3 x4) (View.ld x2 (Rect.unit (s := S1792x128) ![1280, 0] S256x128.size inb_S1792x128_S256x128_1280_0))⟩,
   ⟨Rect.unit (s := S1792x512) ![1024, 384] S256x128.size inb_S1792x512_S256x128_1024_384, qOf (head_1024_384 x0 x1 x3 x4) (View.ld x2 (Rect.unit (s := S1792x128) ![1024, 0] S256x128.size inb_S1792x128_S256x128_1024_0))⟩,
   ⟨Rect.unit (s := S1792x512) ![1024, 256] S256x128.size inb_S1792x512_S256x128_1024_256, qOf (head_1024_256 x0 x1 x3 x4) (View.ld x2 (Rect.unit (s := S1792x128) ![1024, 0] S256x128.size inb_S1792x128_S256x128_1024_0))⟩,
   ⟨Rect.unit (s := S1792x512) ![1024, 128] S256x128.size inb_S1792x512_S256x128_1024_128, qOf (head_1024_128 x0 x1 x3 x4) (View.ld x2 (Rect.unit (s := S1792x128) ![1024, 0] S256x128.size inb_S1792x128_S256x128_1024_0))⟩,
   ⟨Rect.unit (s := S1792x512) ![1024, 0] S256x128.size inb_S1792x512_S256x128_1024_0, qOf (head_1024_0 x0 x1 x3 x4) (View.ld x2 (Rect.unit (s := S1792x128) ![1024, 0] S256x128.size inb_S1792x128_S256x128_1024_0))⟩,
   ⟨Rect.unit (s := S1792x512) ![768, 384] S256x128.size inb_S1792x512_S256x128_768_384, qOf (head_768_384 x0 x1 x3 x4) (View.ld x2 (Rect.unit (s := S1792x128) ![768, 0] S256x128.size inb_S1792x128_S256x128_768_0))⟩,
   ⟨Rect.unit (s := S1792x512) ![768, 256] S256x128.size inb_S1792x512_S256x128_768_256, qOf (head_768_256 x0 x1 x3 x4) (View.ld x2 (Rect.unit (s := S1792x128) ![768, 0] S256x128.size inb_S1792x128_S256x128_768_0))⟩,
   ⟨Rect.unit (s := S1792x512) ![768, 128] S256x128.size inb_S1792x512_S256x128_768_128, qOf (head_768_128 x0 x1 x3 x4) (View.ld x2 (Rect.unit (s := S1792x128) ![768, 0] S256x128.size inb_S1792x128_S256x128_768_0))⟩,
   ⟨Rect.unit (s := S1792x512) ![768, 0] S256x128.size inb_S1792x512_S256x128_768_0, qOf (head_768_0 x0 x1 x3 x4) (View.ld x2 (Rect.unit (s := S1792x128) ![768, 0] S256x128.size inb_S1792x128_S256x128_768_0))⟩,
   ⟨Rect.unit (s := S1792x512) ![512, 384] S256x128.size inb_S1792x512_S256x128_512_384, qOf (head_512_384 x0 x1 x3 x4) (View.ld x2 (Rect.unit (s := S1792x128) ![512, 0] S256x128.size inb_S1792x128_S256x128_512_0))⟩,
   ⟨Rect.unit (s := S1792x512) ![512, 256] S256x128.size inb_S1792x512_S256x128_512_256, qOf (head_512_256 x0 x1 x3 x4) (View.ld x2 (Rect.unit (s := S1792x128) ![512, 0] S256x128.size inb_S1792x128_S256x128_512_0))⟩,
   ⟨Rect.unit (s := S1792x512) ![512, 128] S256x128.size inb_S1792x512_S256x128_512_128, qOf (head_512_128 x0 x1 x3 x4) (View.ld x2 (Rect.unit (s := S1792x128) ![512, 0] S256x128.size inb_S1792x128_S256x128_512_0))⟩,
   ⟨Rect.unit (s := S1792x512) ![512, 0] S256x128.size inb_S1792x512_S256x128_512_0, qOf (head_512_0 x0 x1 x3 x4) (View.ld x2 (Rect.unit (s := S1792x128) ![512, 0] S256x128.size inb_S1792x128_S256x128_512_0))⟩,
   ⟨Rect.unit (s := S1792x512) ![256, 384] S256x128.size inb_S1792x512_S256x128_256_384, qOf (head_256_384 x0 x1 x3 x4) (View.ld x2 (Rect.unit (s := S1792x128) ![256, 0] S256x128.size inb_S1792x128_S256x128_256_0))⟩,
   ⟨Rect.unit (s := S1792x512) ![256, 256] S256x128.size inb_S1792x512_S256x128_256_256, qOf (head_256_256 x0 x1 x3 x4) (View.ld x2 (Rect.unit (s := S1792x128) ![256, 0] S256x128.size inb_S1792x128_S256x128_256_0))⟩,
   ⟨Rect.unit (s := S1792x512) ![256, 128] S256x128.size inb_S1792x512_S256x128_256_128, qOf (head_256_128 x0 x1 x3 x4) (View.ld x2 (Rect.unit (s := S1792x128) ![256, 0] S256x128.size inb_S1792x128_S256x128_256_0))⟩,
   ⟨Rect.unit (s := S1792x512) ![256, 0] S256x128.size inb_S1792x512_S256x128_256_0, qOf (head_256_0 x0 x1 x3 x4) (View.ld x2 (Rect.unit (s := S1792x128) ![256, 0] S256x128.size inb_S1792x128_S256x128_256_0))⟩,
   ⟨Rect.unit (s := S1792x512) ![0, 384] S256x128.size inb_S1792x512_S256x128_0_384, qOf (head_0_384 x0 x1 x3 x4) (View.ld x2 (Rect.unit (s := S1792x128) ![0, 0] S256x128.size inb_S1792x128_S256x128_0_0))⟩,
   ⟨Rect.unit (s := S1792x512) ![0, 256] S256x128.size inb_S1792x512_S256x128_0_256, qOf (head_0_256 x0 x1 x3 x4) (View.ld x2 (Rect.unit (s := S1792x128) ![0, 0] S256x128.size inb_S1792x128_S256x128_0_0))⟩,
   ⟨Rect.unit (s := S1792x512) ![0, 128] S256x128.size inb_S1792x512_S256x128_0_128, qOf (head_0_128 x0 x1 x3 x4) (View.ld x2 (Rect.unit (s := S1792x128) ![0, 0] S256x128.size inb_S1792x128_S256x128_0_0))⟩,
   ⟨Rect.unit (s := S1792x512) ![0, 0] S256x128.size inb_S1792x512_S256x128_0_0, qOf (head_0_0 x0 x1 x3 x4) (View.ld x2 (Rect.unit (s := S1792x128) ![0, 0] S256x128.size inb_S1792x128_S256x128_0_0))⟩]

/-- The blocks of `k` (or of `v`) stored at one grid point, last first. -/
def kvPieces : List (View.Piece (Elt F) S1792x512 .bf16) :=
  [⟨Rect.unit (s := S1792x512) ![1536, 384] S256x128.size inb_S1792x512_S256x128_1536_384, kvOf (head_1536_384 x0 x1 x3 x4)⟩,
   ⟨Rect.unit (s := S1792x512) ![1536, 256] S256x128.size inb_S1792x512_S256x128_1536_256, kvOf (head_1536_256 x0 x1 x3 x4)⟩,
   ⟨Rect.unit (s := S1792x512) ![1536, 128] S256x128.size inb_S1792x512_S256x128_1536_128, kvOf (head_1536_128 x0 x1 x3 x4)⟩,
   ⟨Rect.unit (s := S1792x512) ![1536, 0] S256x128.size inb_S1792x512_S256x128_1536_0, kvOf (head_1536_0 x0 x1 x3 x4)⟩,
   ⟨Rect.unit (s := S1792x512) ![1280, 384] S256x128.size inb_S1792x512_S256x128_1280_384, kvOf (head_1280_384 x0 x1 x3 x4)⟩,
   ⟨Rect.unit (s := S1792x512) ![1280, 256] S256x128.size inb_S1792x512_S256x128_1280_256, kvOf (head_1280_256 x0 x1 x3 x4)⟩,
   ⟨Rect.unit (s := S1792x512) ![1280, 128] S256x128.size inb_S1792x512_S256x128_1280_128, kvOf (head_1280_128 x0 x1 x3 x4)⟩,
   ⟨Rect.unit (s := S1792x512) ![1280, 0] S256x128.size inb_S1792x512_S256x128_1280_0, kvOf (head_1280_0 x0 x1 x3 x4)⟩,
   ⟨Rect.unit (s := S1792x512) ![1024, 384] S256x128.size inb_S1792x512_S256x128_1024_384, kvOf (head_1024_384 x0 x1 x3 x4)⟩,
   ⟨Rect.unit (s := S1792x512) ![1024, 256] S256x128.size inb_S1792x512_S256x128_1024_256, kvOf (head_1024_256 x0 x1 x3 x4)⟩,
   ⟨Rect.unit (s := S1792x512) ![1024, 128] S256x128.size inb_S1792x512_S256x128_1024_128, kvOf (head_1024_128 x0 x1 x3 x4)⟩,
   ⟨Rect.unit (s := S1792x512) ![1024, 0] S256x128.size inb_S1792x512_S256x128_1024_0, kvOf (head_1024_0 x0 x1 x3 x4)⟩,
   ⟨Rect.unit (s := S1792x512) ![768, 384] S256x128.size inb_S1792x512_S256x128_768_384, kvOf (head_768_384 x0 x1 x3 x4)⟩,
   ⟨Rect.unit (s := S1792x512) ![768, 256] S256x128.size inb_S1792x512_S256x128_768_256, kvOf (head_768_256 x0 x1 x3 x4)⟩,
   ⟨Rect.unit (s := S1792x512) ![768, 128] S256x128.size inb_S1792x512_S256x128_768_128, kvOf (head_768_128 x0 x1 x3 x4)⟩,
   ⟨Rect.unit (s := S1792x512) ![768, 0] S256x128.size inb_S1792x512_S256x128_768_0, kvOf (head_768_0 x0 x1 x3 x4)⟩,
   ⟨Rect.unit (s := S1792x512) ![512, 384] S256x128.size inb_S1792x512_S256x128_512_384, kvOf (head_512_384 x0 x1 x3 x4)⟩,
   ⟨Rect.unit (s := S1792x512) ![512, 256] S256x128.size inb_S1792x512_S256x128_512_256, kvOf (head_512_256 x0 x1 x3 x4)⟩,
   ⟨Rect.unit (s := S1792x512) ![512, 128] S256x128.size inb_S1792x512_S256x128_512_128, kvOf (head_512_128 x0 x1 x3 x4)⟩,
   ⟨Rect.unit (s := S1792x512) ![512, 0] S256x128.size inb_S1792x512_S256x128_512_0, kvOf (head_512_0 x0 x1 x3 x4)⟩,
   ⟨Rect.unit (s := S1792x512) ![256, 384] S256x128.size inb_S1792x512_S256x128_256_384, kvOf (head_256_384 x0 x1 x3 x4)⟩,
   ⟨Rect.unit (s := S1792x512) ![256, 256] S256x128.size inb_S1792x512_S256x128_256_256, kvOf (head_256_256 x0 x1 x3 x4)⟩,
   ⟨Rect.unit (s := S1792x512) ![256, 128] S256x128.size inb_S1792x512_S256x128_256_128, kvOf (head_256_128 x0 x1 x3 x4)⟩,
   ⟨Rect.unit (s := S1792x512) ![256, 0] S256x128.size inb_S1792x512_S256x128_256_0, kvOf (head_256_0 x0 x1 x3 x4)⟩,
   ⟨Rect.unit (s := S1792x512) ![0, 384] S256x128.size inb_S1792x512_S256x128_0_384, kvOf (head_0_384 x0 x1 x3 x4)⟩,
   ⟨Rect.unit (s := S1792x512) ![0, 256] S256x128.size inb_S1792x512_S256x128_0_256, kvOf (head_0_256 x0 x1 x3 x4)⟩,
   ⟨Rect.unit (s := S1792x512) ![0, 128] S256x128.size inb_S1792x512_S256x128_0_128, kvOf (head_0_128 x0 x1 x3 x4)⟩,
   ⟨Rect.unit (s := S1792x512) ![0, 0] S256x128.size inb_S1792x512_S256x128_0_0, kvOf (head_0_0 x0 x1 x3 x4)⟩]

/-- The blocks of codes stored at one grid point, last first. -/
def codePieces : List (View.Piece (Elt F) S1792x512 .fp8e4m3) :=
  [⟨Rect.unit (s := S1792x512) ![1536, 384] S256x128.size inb_S1792x512_S256x128_1536_384, codesOf (head_1536_384 x0 x1 x3 x4)⟩,
   ⟨Rect.unit (s := S1792x512) ![1536, 256] S256x128.size inb_S1792x512_S256x128_1536_256, codesOf (head_1536_256 x0 x1 x3 x4)⟩,
   ⟨Rect.unit (s := S1792x512) ![1536, 128] S256x128.size inb_S1792x512_S256x128_1536_128, codesOf (head_1536_128 x0 x1 x3 x4)⟩,
   ⟨Rect.unit (s := S1792x512) ![1536, 0] S256x128.size inb_S1792x512_S256x128_1536_0, codesOf (head_1536_0 x0 x1 x3 x4)⟩,
   ⟨Rect.unit (s := S1792x512) ![1280, 384] S256x128.size inb_S1792x512_S256x128_1280_384, codesOf (head_1280_384 x0 x1 x3 x4)⟩,
   ⟨Rect.unit (s := S1792x512) ![1280, 256] S256x128.size inb_S1792x512_S256x128_1280_256, codesOf (head_1280_256 x0 x1 x3 x4)⟩,
   ⟨Rect.unit (s := S1792x512) ![1280, 128] S256x128.size inb_S1792x512_S256x128_1280_128, codesOf (head_1280_128 x0 x1 x3 x4)⟩,
   ⟨Rect.unit (s := S1792x512) ![1280, 0] S256x128.size inb_S1792x512_S256x128_1280_0, codesOf (head_1280_0 x0 x1 x3 x4)⟩,
   ⟨Rect.unit (s := S1792x512) ![1024, 384] S256x128.size inb_S1792x512_S256x128_1024_384, codesOf (head_1024_384 x0 x1 x3 x4)⟩,
   ⟨Rect.unit (s := S1792x512) ![1024, 256] S256x128.size inb_S1792x512_S256x128_1024_256, codesOf (head_1024_256 x0 x1 x3 x4)⟩,
   ⟨Rect.unit (s := S1792x512) ![1024, 128] S256x128.size inb_S1792x512_S256x128_1024_128, codesOf (head_1024_128 x0 x1 x3 x4)⟩,
   ⟨Rect.unit (s := S1792x512) ![1024, 0] S256x128.size inb_S1792x512_S256x128_1024_0, codesOf (head_1024_0 x0 x1 x3 x4)⟩,
   ⟨Rect.unit (s := S1792x512) ![768, 384] S256x128.size inb_S1792x512_S256x128_768_384, codesOf (head_768_384 x0 x1 x3 x4)⟩,
   ⟨Rect.unit (s := S1792x512) ![768, 256] S256x128.size inb_S1792x512_S256x128_768_256, codesOf (head_768_256 x0 x1 x3 x4)⟩,
   ⟨Rect.unit (s := S1792x512) ![768, 128] S256x128.size inb_S1792x512_S256x128_768_128, codesOf (head_768_128 x0 x1 x3 x4)⟩,
   ⟨Rect.unit (s := S1792x512) ![768, 0] S256x128.size inb_S1792x512_S256x128_768_0, codesOf (head_768_0 x0 x1 x3 x4)⟩,
   ⟨Rect.unit (s := S1792x512) ![512, 384] S256x128.size inb_S1792x512_S256x128_512_384, codesOf (head_512_384 x0 x1 x3 x4)⟩,
   ⟨Rect.unit (s := S1792x512) ![512, 256] S256x128.size inb_S1792x512_S256x128_512_256, codesOf (head_512_256 x0 x1 x3 x4)⟩,
   ⟨Rect.unit (s := S1792x512) ![512, 128] S256x128.size inb_S1792x512_S256x128_512_128, codesOf (head_512_128 x0 x1 x3 x4)⟩,
   ⟨Rect.unit (s := S1792x512) ![512, 0] S256x128.size inb_S1792x512_S256x128_512_0, codesOf (head_512_0 x0 x1 x3 x4)⟩,
   ⟨Rect.unit (s := S1792x512) ![256, 384] S256x128.size inb_S1792x512_S256x128_256_384, codesOf (head_256_384 x0 x1 x3 x4)⟩,
   ⟨Rect.unit (s := S1792x512) ![256, 256] S256x128.size inb_S1792x512_S256x128_256_256, codesOf (head_256_256 x0 x1 x3 x4)⟩,
   ⟨Rect.unit (s := S1792x512) ![256, 128] S256x128.size inb_S1792x512_S256x128_256_128, codesOf (head_256_128 x0 x1 x3 x4)⟩,
   ⟨Rect.unit (s := S1792x512) ![256, 0] S256x128.size inb_S1792x512_S256x128_256_0, codesOf (head_256_0 x0 x1 x3 x4)⟩,
   ⟨Rect.unit (s := S1792x512) ![0, 384] S256x128.size inb_S1792x512_S256x128_0_384, codesOf (head_0_384 x0 x1 x3 x4)⟩,
   ⟨Rect.unit (s := S1792x512) ![0, 256] S256x128.size inb_S1792x512_S256x128_0_256, codesOf (head_0_256 x0 x1 x3 x4)⟩,
   ⟨Rect.unit (s := S1792x512) ![0, 128] S256x128.size inb_S1792x512_S256x128_0_128, codesOf (head_0_128 x0 x1 x3 x4)⟩,
   ⟨Rect.unit (s := S1792x512) ![0, 0] S256x128.size inb_S1792x512_S256x128_0_0, codesOf (head_0_0 x0 x1 x3 x4)⟩]

/-- The blocks of scales stored at one grid point, last first. -/
def scalePieces : List (View.Piece (Elt F) S1x1792x4 .f32) :=
  [⟨Rect.unit (s := S1x1792x4) ![0, 1536, 0] S1x256x4.size inb_S1x1792x4_S1x256x4_0_1536_0, scalesOf (head_1536_0 x0 x1 x3 x4) (head_1536_128 x0 x1 x3 x4) (head_1536_256 x0 x1 x3 x4) (head_1536_384 x0 x1 x3 x4)⟩,
   ⟨Rect.unit (s := S1x1792x4) ![0, 1280, 0] S1x256x4.size inb_S1x1792x4_S1x256x4_0_1280_0, scalesOf (head_1280_0 x0 x1 x3 x4) (head_1280_128 x0 x1 x3 x4) (head_1280_256 x0 x1 x3 x4) (head_1280_384 x0 x1 x3 x4)⟩,
   ⟨Rect.unit (s := S1x1792x4) ![0, 1024, 0] S1x256x4.size inb_S1x1792x4_S1x256x4_0_1024_0, scalesOf (head_1024_0 x0 x1 x3 x4) (head_1024_128 x0 x1 x3 x4) (head_1024_256 x0 x1 x3 x4) (head_1024_384 x0 x1 x3 x4)⟩,
   ⟨Rect.unit (s := S1x1792x4) ![0, 768, 0] S1x256x4.size inb_S1x1792x4_S1x256x4_0_768_0, scalesOf (head_768_0 x0 x1 x3 x4) (head_768_128 x0 x1 x3 x4) (head_768_256 x0 x1 x3 x4) (head_768_384 x0 x1 x3 x4)⟩,
   ⟨Rect.unit (s := S1x1792x4) ![0, 512, 0] S1x256x4.size inb_S1x1792x4_S1x256x4_0_512_0, scalesOf (head_512_0 x0 x1 x3 x4) (head_512_128 x0 x1 x3 x4) (head_512_256 x0 x1 x3 x4) (head_512_384 x0 x1 x3 x4)⟩,
   ⟨Rect.unit (s := S1x1792x4) ![0, 256, 0] S1x256x4.size inb_S1x1792x4_S1x256x4_0_256_0, scalesOf (head_256_0 x0 x1 x3 x4) (head_256_128 x0 x1 x3 x4) (head_256_256 x0 x1 x3 x4) (head_256_384 x0 x1 x3 x4)⟩,
   ⟨Rect.unit (s := S1x1792x4) ![0, 0, 0] S1x256x4.size inb_S1x1792x4_S1x256x4_0_0_0, scalesOf (head_0_0 x0 x1 x3 x4) (head_0_128 x0 x1 x3 x4) (head_0_256 x0 x1 x3 x4) (head_0_384 x0 x1 x3 x4)⟩]
end Lists

end Cert.Qkv2Eq

end
-- ==== Proof.Qkv2.Ideal.PiecesC.lean ====
module

public import proofs.«01_k».proof.Proof.Qkv2.Ideal.RunC
public import proofs.«01_k».proof.Proof.Qkv2.Block
public import Idealize.ShloMosaic.Lib.Pipeline.ValueKit.Acc

@[expose] public section

/-! The blocks that the run finds stored in this case are the ones the block module lists. -/

set_option maxRecDepth 16384

noncomputable section

namespace Cert.Qkv2Eq

open Idealize.ShloMosaic Idealize.ShloMosaic.TcCoe Cert.Qkv2Ideal Cert.Qkv2Ideal.Gen

variable {F : FTy → Type} [FloatOps F]

set_option maxHeartbeats 4000000 in
/-- The run finds these blocks. -/
theorem piecesC_7 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : ¬cond0_1 i) (hc2 : cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_C (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).1 = kvPieces x0 x1 x3 x4 := by
  unfold kernelRun0_C
  frame_out [harg1, harg2, harg3, harg4, harg5]
  rfl

set_option maxHeartbeats 4000000 in
/-- The run finds these blocks. -/
theorem piecesC_10 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : ¬cond0_1 i) (hc2 : cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_C (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.1 = codePieces x0 x1 x3 x4 := by
  unfold kernelRun0_C
  frame_out [harg1, harg2, harg3, harg4, harg5]
  rfl

set_option maxHeartbeats 4000000 in
/-- The run finds these blocks. -/
theorem piecesC_11 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : ¬cond0_1 i) (hc2 : cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_C (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.2.1 = scalePieces x0 x1 x3 x4 := by
  unfold kernelRun0_C
  frame_out [harg1, harg2, harg3, harg4, harg5]
  rfl

end Cert.Qkv2Eq

end
-- ==== Proof.Qkv2.Ideal.PiecesA.lean ====
module

public import proofs.«01_k».proof.Proof.Qkv2.Ideal.RunA
public import proofs.«01_k».proof.Proof.Qkv2.Block
public import Idealize.ShloMosaic.Lib.Pipeline.ValueKit.Acc

@[expose] public section

/-! The blocks that the run finds stored in this case are the ones the block module lists. -/

set_option maxRecDepth 16384

noncomputable section

namespace Cert.Qkv2Eq

open Idealize.ShloMosaic Idealize.ShloMosaic.TcCoe Cert.Qkv2Ideal Cert.Qkv2Ideal.Gen

variable {F : FTy → Type} [FloatOps F]

set_option maxHeartbeats 4000000 in
/-- The run finds these blocks. -/
theorem piecesA_5 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : cond0_0 i) (hc1 : ¬cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_A (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).1 = qPieces x0 x1 x2 x3 x4 := by
  unfold kernelRun0_A
  frame_out [harg1, harg2, harg3, harg4, harg5]
  rfl

end Cert.Qkv2Eq

end
-- ==== Proof.Qkv2.Ideal.PiecesB.lean ====
module

public import proofs.«01_k».proof.Proof.Qkv2.Ideal.RunB
public import proofs.«01_k».proof.Proof.Qkv2.Block
public import Idealize.ShloMosaic.Lib.Pipeline.ValueKit.Acc

@[expose] public section

/-! The blocks that the run finds stored in this case are the ones the block module lists. -/

set_option maxRecDepth 16384

noncomputable section

namespace Cert.Qkv2Eq

open Idealize.ShloMosaic Idealize.ShloMosaic.TcCoe Cert.Qkv2Ideal Cert.Qkv2Ideal.Gen

variable {F : FTy → Type} [FloatOps F]

set_option maxHeartbeats 4000000 in
/-- The run finds these blocks. -/
theorem piecesB_6 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_B (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).1 = kvPieces x0 x1 x3 x4 := by
  unfold kernelRun0_B
  frame_out [harg1, harg2, harg3, harg4, harg5]
  rfl

set_option maxHeartbeats 4000000 in
/-- The run finds these blocks. -/
theorem piecesB_8 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_B (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.1 = codePieces x0 x1 x3 x4 := by
  unfold kernelRun0_B
  frame_out [harg1, harg2, harg3, harg4, harg5]
  rfl

set_option maxHeartbeats 4000000 in
/-- The run finds these blocks. -/
theorem piecesB_9 (c : Dev nD) (i : grid0.Coords) (arg1 : Memref sig .tc .vmem S1792x5120 .fp8e4m3) (harg1 : arg1.IsWhole) (arg2 : Memref sig .tc .vmem S1792x128 .f32) (harg2 : arg2.IsWhole) (arg3 : Memref sig .tc .vmem S1792x128 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1792x512 .bf16) (harg6 : arg6.IsWhole) (arg7 : Memref sig .tc .vmem S1792x512 .bf16) (harg7 : arg7.IsWhole) (arg8 : Memref sig .tc .vmem S1792x512 .bf16) (harg8 : arg8.IsWhole) (arg9 : Memref sig .tc .vmem S1792x512 .fp8e4m3) (harg9 : arg9.IsWhole) (arg10 : Memref sig .tc .vmem S1x1792x4 .f32) (harg10 : arg10.IsWhole) (arg11 : Memref sig .tc .vmem S1792x512 .fp8e4m3) (harg11 : arg11.IsWhole) (arg12 : Memref sig .tc .vmem S1x1792x4 .f32) (harg12 : arg12.IsWhole) (hc0 : ¬cond0_0 i) (hc1 : cond0_1 i) (hc2 : ¬cond0_2 i)
    (x0 : Vec F S1792x5120 .fp8e4m3) (x1 : Vec F S1792x128 .f32) (x2 : Vec F S1792x128 .f32) (x3 : Vec F S5120x512 .fp8e4m3) (x4 : Vec F S1x512 .f32) :
    (kernelRun0_B (F := F) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4).2.2.1 = scalePieces x0 x1 x3 x4 := by
  unfold kernelRun0_B
  frame_out [harg1, harg2, harg3, harg4, harg5]
  rfl

end Cert.Qkv2Eq

end
-- ==== Proof.Qkv2.Ideal.Frame.lean ====
module

public import proofs.«01_k».proof.Proof.Qkv2.Ideal.PiecesC
public import proofs.«01_k».proof.Proof.Qkv2.Ideal.PiecesA
public import proofs.«01_k».proof.Proof.Qkv2.Ideal.PiecesB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.Qkv2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Qkv2Eq
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored blocks cover the output buffers -/

/-- The blocks stored of `q` cover its buffer, -/
theorem q_cov (x0 : Vec F S1792x5120 .fp8e4m3) (x1 : Vec F S1792x128 .f32) (x2 : Vec F S1792x128 .f32)
    (x3 : Vec F S5120x512 .fp8e4m3) (x4 : Vec F S1x512 .f32) (y : S1792x512.Idx) : ∃ p ∈ qPieces x0 x1 x2 x3 x4, y ∈ p.1.set :=
  View.cover_of_tiled (qPieces x0 x1 x2 x3 x4) S256x128.size (by rfl) y
/-- those of `k` or `v` theirs, -/
theorem kv_cov (x0 : Vec F S1792x5120 .fp8e4m3) (x1 : Vec F S1792x128 .f32)
    (x3 : Vec F S5120x512 .fp8e4m3) (x4 : Vec F S1x512 .f32) (y : S1792x512.Idx) : ∃ p ∈ kvPieces x0 x1 x3 x4, y ∈ p.1.set :=
  View.cover_of_tiled (kvPieces x0 x1 x3 x4) S256x128.size (by rfl) y
/-- those of the codes theirs, -/
theorem code_cov (x0 : Vec F S1792x5120 .fp8e4m3) (x1 : Vec F S1792x128 .f32)
    (x3 : Vec F S5120x512 .fp8e4m3) (x4 : Vec F S1x512 .f32) (y : S1792x512.Idx) : ∃ p ∈ codePieces x0 x1 x3 x4, y ∈ p.1.set :=
  View.cover_of_tiled (codePieces x0 x1 x3 x4) S256x128.size (by rfl) y
/-- and those of the scales theirs. -/
theorem scale_cov (x0 : Vec F S1792x5120 .fp8e4m3) (x1 : Vec F S1792x128 .f32)
    (x3 : Vec F S5120x512 .fp8e4m3) (x4 : Vec F S1x512 .f32) (y : S1x1792x4.Idx) : ∃ p ∈ scalePieces x0 x1 x3 x4, y ∈ p.1.set :=
  View.cover_of_tiled (scalePieces x0 x1 x3 x4) S1x256x4.size (by rfl) y

/-! ## What the output buffers hold -/

/-- `q`'s buffer after its blocks are stored at point `t`, -/
def outQ (c : Dev nD) (t : Fin cfg0.N) : Vec F S1792x512 .bf16 :=
  View.canon (qPieces (iblk m c 0 t) (iblk m c 1 t) (iblk m c 2 t) (iblk m c 3 t) (iblk m c 4 t))
/-- that of `k` or `v`, -/
def outKV (c : Dev nD) (t : Fin cfg0.N) : Vec F S1792x512 .bf16 :=
  View.canon (kvPieces (iblk m c 0 t) (iblk m c 1 t) (iblk m c 3 t) (iblk m c 4 t))
/-- that of the codes, -/
def outC (c : Dev nD) (t : Fin cfg0.N) : Vec F S1792x512 .fp8e4m3 :=
  View.canon (codePieces (iblk m c 0 t) (iblk m c 1 t) (iblk m c 3 t) (iblk m c 4 t))
/-- and that of the scales. -/
def outS (c : Dev nD) (t : Fin cfg0.N) : Vec F S1x1792x4 .f32 :=
  View.canon (scalePieces (iblk m c 0 t) (iblk m c 1 t) (iblk m c 3 t) (iblk m c 4 t))

/-- The point that last wrote `q`'s buffer (points 0 to 9 write it), -/
def ptQ (t : Fin cfg0.N) : Fin cfg0.N := if t.val < 10 then t else ⟨9, by decide⟩
/-- `k`'s (points 10 and 11; before them the first of the two), -/
def ptK (t : Fin cfg0.N) : Fin cfg0.N := if t.val < 10 then ⟨10, by decide⟩ else if t.val ≤ 11 then t else ⟨11, by decide⟩
/-- and `v`'s (points 12 and 13; before them the first of the two). -/
def ptV (t : Fin cfg0.N) : Fin cfg0.N := if t.val < 12 then ⟨12, by decide⟩ else t

/-- The proof data of the one pipeline on core `c`: the arrays as the region finds them (`V`); after the body at
    point `t` each input's buffer at its block and each output's at what the point that last wrote it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ m c (ptQ t)
    | ⟨6, _⟩ => outKV m c (ptK t)
    | ⟨7, _⟩ => outKV m c (ptV t)
    | ⟨8, _⟩ => outC m c (ptK t)
    | ⟨9, _⟩ => outS m c (ptK t)
    | ⟨10, _⟩ => outC m c (ptV t)
    | ⟨11, _⟩ => outS m c (ptV t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outQ m c (ptQ t) := by dsimp only [dats]
theorem after0_6 (c : Dev nD) (t : Fin cfg0.N) : (dats m 0 c).after 6 t = outKV m c (ptK t) := by dsimp only [dats]
theorem after0_7 (c : Dev nD) (t : Fin cfg0.N) : (dats m 0 c).after 7 t = outKV m c (ptV t) := by dsimp only [dats]
theorem after0_8 (c : Dev nD) (t : Fin cfg0.N) : (dats m 0 c).after 8 t = outC m c (ptK t) := by dsimp only [dats]
theorem after0_9 (c : Dev nD) (t : Fin cfg0.N) : (dats m 0 c).after 9 t = outS m c (ptK t) := by dsimp only [dats]
theorem after0_10 (c : Dev nD) (t : Fin cfg0.N) : (dats m 0 c).after 10 t = outC m c (ptV t) := by dsimp only [dats]
theorem after0_11 (c : Dev nD) (t : Fin cfg0.N) : (dats m 0 c).after 11 t = outS m c (ptV t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The windows at points that do not write them -/

/-- The points that leave `q` alone: 10 to 13, of which only the last writes it back, and it is not fresh there. -/
theorem idle5 : ∀ t : Fin cfg0.N, 10 ≤ t.val → cfg0.idle 5 (cfg0.grid.coords t) = true
    ∧ ((cfg0.win 5).flush t = false ∨ cfg0.fresh 5 t.val = false) := by decide +kernel
/-- The points that write it. -/
theorem live5 : ∀ t : Fin cfg0.N, t.val < 10 → cfg0.idle 5 (cfg0.grid.coords t) = false := by decide +kernel
/-- Window 6: the points that leave it alone, and those that write it. -/
theorem idle6 : ∀ t : Fin cfg0.N, (t.val < 10 ∨ 12 ≤ t.val) → cfg0.idle 6 (cfg0.grid.coords t) = true
    ∧ ((cfg0.win 6).flush t = false ∨ cfg0.fresh 6 t.val = false) := by decide +kernel
theorem live6 : ∀ t : Fin cfg0.N, (10 ≤ t.val ∧ t.val ≤ 11) → cfg0.idle 6 (cfg0.grid.coords t) = false := by decide +kernel
/-- Window 8: the points that leave it alone, and those that write it. -/
theorem idle8 : ∀ t : Fin cfg0.N, (t.val < 10 ∨ 12 ≤ t.val) → cfg0.idle 8 (cfg0.grid.coords t) = true
    ∧ ((cfg0.win 8).flush t = false ∨ cfg0.fresh 8 t.val = false) := by decide +kernel
theorem live8 : ∀ t : Fin cfg0.N, (10 ≤ t.val ∧ t.val ≤ 11) → cfg0.idle 8 (cfg0.grid.coords t) = false := by decide +kernel
/-- Window 9: the points that leave it alone, and those that write it. -/
theorem idle9 : ∀ t : Fin cfg0.N, (t.val < 10 ∨ 12 ≤ t.val) → cfg0.idle 9 (cfg0.grid.coords t) = true
    ∧ ((cfg0.win 9).flush t = false ∨ cfg0.fresh 9 t.val = false) := by decide +kernel
theorem live9 : ∀ t : Fin cfg0.N, (10 ≤ t.val ∧ t.val ≤ 11) → cfg0.idle 9 (cfg0.grid.coords t) = false := by decide +kernel
/-- Window 7: the points that leave it alone, and those that write it. -/
theorem idle7 : ∀ t : Fin cfg0.N, t.val < 12 → cfg0.idle 7 (cfg0.grid.coords t) = true
    ∧ ((cfg0.win 7).flush t = false ∨ cfg0.fresh 7 t.val = false) := by decide +kernel
theorem live7 : ∀ t : Fin cfg0.N, 12 ≤ t.val → cfg0.idle 7 (cfg0.grid.coords t) = false := by decide +kernel
/-- Window 10: the points that leave it alone, and those that write it. -/
theorem idle10 : ∀ t : Fin cfg0.N, t.val < 12 → cfg0.idle 10 (cfg0.grid.coords t) = true
    ∧ ((cfg0.win 10).flush t = false ∨ cfg0.fresh 10 t.val = false) := by decide +kernel
theorem live10 : ∀ t : Fin cfg0.N, 12 ≤ t.val → cfg0.idle 10 (cfg0.grid.coords t) = false := by decide +kernel
/-- Window 11: the points that leave it alone, and those that write it. -/
theorem idle11 : ∀ t : Fin cfg0.N, t.val < 12 → cfg0.idle 11 (cfg0.grid.coords t) = true
    ∧ ((cfg0.win 11).flush t = false ∨ cfg0.fresh 11 t.val = false) := by decide +kernel
theorem live11 : ∀ t : Fin cfg0.N, 12 ≤ t.val → cfg0.idle 11 (cfg0.grid.coords t) = false := by decide +kernel
/-- At a point that leaves window 5 alone, its buffer's contents are those of the point before. -/
theorem carry5 (c : Dev nD) (t : Fin cfg0.N) (h0 : t.val ≠ 0) (hi : cfg0.idle 5 (cfg0.grid.coords t) = true) :
    (dats m 0 c).after 5 t = (dats m 0 c).after 5 ⟨t.val - 1, by omega⟩ := by
  rw [after0_5, after0_5]
  exact congrArg (outQ m c) ((by decide +kernel : ∀ t : Fin cfg0.N, t.val ≠ 0 → cfg0.idle 5 (cfg0.grid.coords t) = true →
    ptQ t = ptQ ⟨t.val - 1, by omega⟩) t h0 hi)
/-- So such a point leaves the buffer as it should be. -/
theorem pass5 (c : Dev nD) (t : Fin cfg0.N) (h : cfg0.idle 5 (cfg0.grid.coords t) = true
      ∧ ((cfg0.win 5).flush t = false ∨ cfg0.fresh 5 t.val = false)) :
    iprop(∃ d, owns (c : Thread nD τ) (ms0_5 t) fullShare ((dats m 0 c).before 5 t d)) ⊢ (dats m 0 c).leavesExact 5 t := by
  by_cases hf : (cfg0.win 5).flush t = false
  · rw [(dats m 0 c).leavesExact_idle 5 t h.1 hf]
  · have hf' := h.2.resolve_left hf
    rw [show (dats m 0 c).leavesExact 5 t = owns (c : Thread nD τ) (ms0_5 t) fullShare ((dats m 0 c).after 5 t) from by
      unfold Dat.leavesExact; rw [h.1, (Bool.not_eq_false _).mp hf]]
    iintro ⟨%d, H⟩
    have e : (dats m 0 c).before 5 t d = (dats m 0 c).after 5 t := by
      rw [(dats m 0 c).before_out_traj 5 rfl (fun _ _ => rfl) (fun t h0 hi _ => carry5 m c t h0 hi) t.val t rfl d, hf']
      have h0 : t.val ≠ 0 := fun h0 => by
        have : cfg0.fresh 5 t.val = true := by rw [h0]; exact Pipeline.Cfg.fresh_zero cfg0 5
        rw [this] at hf'; exact Bool.noConfusion hf'
      exact (carry5 m c t h0 h.1).symm
    rw [← e]
    iexact H
/-- At a point that leaves window 6 alone, its buffer's contents are those of the point before. -/
theorem carry6 (c : Dev nD) (t : Fin cfg0.N) (h0 : t.val ≠ 0) (hi : cfg0.idle 6 (cfg0.grid.coords t) = true) :
    (dats m 0 c).after 6 t = (dats m 0 c).after 6 ⟨t.val - 1, by omega⟩ := by
  rw [after0_6, after0_6]
  exact congrArg (outKV m c) ((by decide +kernel : ∀ t : Fin cfg0.N, t.val ≠ 0 → cfg0.idle 6 (cfg0.grid.coords t) = true →
    ptK t = ptK ⟨t.val - 1, by omega⟩) t h0 hi)
/-- So such a point leaves the buffer as it should be. -/
theorem pass6 (c : Dev nD) (t : Fin cfg0.N) (h : cfg0.idle 6 (cfg0.grid.coords t) = true
      ∧ ((cfg0.win 6).flush t = false ∨ cfg0.fresh 6 t.val = false)) :
    iprop(∃ d, owns (c : Thread nD τ) (ms0_6 t) fullShare ((dats m 0 c).before 6 t d)) ⊢ (dats m 0 c).leavesExact 6 t := by
  by_cases hf : (cfg0.win 6).flush t = false
  · rw [(dats m 0 c).leavesExact_idle 6 t h.1 hf]
  · have hf' := h.2.resolve_left hf
    rw [show (dats m 0 c).leavesExact 6 t = owns (c : Thread nD τ) (ms0_6 t) fullShare ((dats m 0 c).after 6 t) from by
      unfold Dat.leavesExact; rw [h.1, (Bool.not_eq_false _).mp hf]]
    iintro ⟨%d, H⟩
    have e : (dats m 0 c).before 6 t d = (dats m 0 c).after 6 t := by
      rw [(dats m 0 c).before_out_traj 6 rfl (fun _ _ => rfl) (fun t h0 hi _ => carry6 m c t h0 hi) t.val t rfl d, hf']
      have h0 : t.val ≠ 0 := fun h0 => by
        have : cfg0.fresh 6 t.val = true := by rw [h0]; exact Pipeline.Cfg.fresh_zero cfg0 6
        rw [this] at hf'; exact Bool.noConfusion hf'
      exact (carry6 m c t h0 h.1).symm
    rw [← e]
    iexact H
/-- At a point that leaves window 7 alone, its buffer's contents are those of the point before. -/
theorem carry7 (c : Dev nD) (t : Fin cfg0.N) (h0 : t.val ≠ 0) (hi : cfg0.idle 7 (cfg0.grid.coords t) = true) :
    (dats m 0 c).after 7 t = (dats m 0 c).after 7 ⟨t.val - 1, by omega⟩ := by
  rw [after0_7, after0_7]
  exact congrArg (outKV m c) ((by decide +kernel : ∀ t : Fin cfg0.N, t.val ≠ 0 → cfg0.idle 7 (cfg0.grid.coords t) = true →
    ptV t = ptV ⟨t.val - 1, by omega⟩) t h0 hi)
/-- So such a point leaves the buffer as it should be. -/
theorem pass7 (c : Dev nD) (t : Fin cfg0.N) (h : cfg0.idle 7 (cfg0.grid.coords t) = true
      ∧ ((cfg0.win 7).flush t = false ∨ cfg0.fresh 7 t.val = false)) :
    iprop(∃ d, owns (c : Thread nD τ) (ms0_7 t) fullShare ((dats m 0 c).before 7 t d)) ⊢ (dats m 0 c).leavesExact 7 t := by
  by_cases hf : (cfg0.win 7).flush t = false
  · rw [(dats m 0 c).leavesExact_idle 7 t h.1 hf]
  · have hf' := h.2.resolve_left hf
    rw [show (dats m 0 c).leavesExact 7 t = owns (c : Thread nD τ) (ms0_7 t) fullShare ((dats m 0 c).after 7 t) from by
      unfold Dat.leavesExact; rw [h.1, (Bool.not_eq_false _).mp hf]]
    iintro ⟨%d, H⟩
    have e : (dats m 0 c).before 7 t d = (dats m 0 c).after 7 t := by
      rw [(dats m 0 c).before_out_traj 7 rfl (fun _ _ => rfl) (fun t h0 hi _ => carry7 m c t h0 hi) t.val t rfl d, hf']
      have h0 : t.val ≠ 0 := fun h0 => by
        have : cfg0.fresh 7 t.val = true := by rw [h0]; exact Pipeline.Cfg.fresh_zero cfg0 7
        rw [this] at hf'; exact Bool.noConfusion hf'
      exact (carry7 m c t h0 h.1).symm
    rw [← e]
    iexact H
/-- At a point that leaves window 8 alone, its buffer's contents are those of the point before. -/
theorem carry8 (c : Dev nD) (t : Fin cfg0.N) (h0 : t.val ≠ 0) (hi : cfg0.idle 8 (cfg0.grid.coords t) = true) :
    (dats m 0 c).after 8 t = (dats m 0 c).after 8 ⟨t.val - 1, by omega⟩ := by
  rw [after0_8, after0_8]
  exact congrArg (outC m c) ((by decide +kernel : ∀ t : Fin cfg0.N, t.val ≠ 0 → cfg0.idle 8 (cfg0.grid.coords t) = true →
    ptK t = ptK ⟨t.val - 1, by omega⟩) t h0 hi)
/-- So such a point leaves the buffer as it should be. -/
theorem pass8 (c : Dev nD) (t : Fin cfg0.N) (h : cfg0.idle 8 (cfg0.grid.coords t) = true
      ∧ ((cfg0.win 8).flush t = false ∨ cfg0.fresh 8 t.val = false)) :
    iprop(∃ d, owns (c : Thread nD τ) (ms0_8 t) fullShare ((dats m 0 c).before 8 t d)) ⊢ (dats m 0 c).leavesExact 8 t := by
  by_cases hf : (cfg0.win 8).flush t = false
  · rw [(dats m 0 c).leavesExact_idle 8 t h.1 hf]
  · have hf' := h.2.resolve_left hf
    rw [show (dats m 0 c).leavesExact 8 t = owns (c : Thread nD τ) (ms0_8 t) fullShare ((dats m 0 c).after 8 t) from by
      unfold Dat.leavesExact; rw [h.1, (Bool.not_eq_false _).mp hf]]
    iintro ⟨%d, H⟩
    have e : (dats m 0 c).before 8 t d = (dats m 0 c).after 8 t := by
      rw [(dats m 0 c).before_out_traj 8 rfl (fun _ _ => rfl) (fun t h0 hi _ => carry8 m c t h0 hi) t.val t rfl d, hf']
      have h0 : t.val ≠ 0 := fun h0 => by
        have : cfg0.fresh 8 t.val = true := by rw [h0]; exact Pipeline.Cfg.fresh_zero cfg0 8
        rw [this] at hf'; exact Bool.noConfusion hf'
      exact (carry8 m c t h0 h.1).symm
    rw [← e]
    iexact H
/-- At a point that leaves window 9 alone, its buffer's contents are those of the point before. -/
theorem carry9 (c : Dev nD) (t : Fin cfg0.N) (h0 : t.val ≠ 0) (hi : cfg0.idle 9 (cfg0.grid.coords t) = true) :
    (dats m 0 c).after 9 t = (dats m 0 c).after 9 ⟨t.val - 1, by omega⟩ := by
  rw [after0_9, after0_9]
  exact congrArg (outS m c) ((by decide +kernel : ∀ t : Fin cfg0.N, t.val ≠ 0 → cfg0.idle 9 (cfg0.grid.coords t) = true →
    ptK t = ptK ⟨t.val - 1, by omega⟩) t h0 hi)
/-- So such a point leaves the buffer as it should be. -/
theorem pass9 (c : Dev nD) (t : Fin cfg0.N) (h : cfg0.idle 9 (cfg0.grid.coords t) = true
      ∧ ((cfg0.win 9).flush t = false ∨ cfg0.fresh 9 t.val = false)) :
    iprop(∃ d, owns (c : Thread nD τ) (ms0_9 t) fullShare ((dats m 0 c).before 9 t d)) ⊢ (dats m 0 c).leavesExact 9 t := by
  by_cases hf : (cfg0.win 9).flush t = false
  · rw [(dats m 0 c).leavesExact_idle 9 t h.1 hf]
  · have hf' := h.2.resolve_left hf
    rw [show (dats m 0 c).leavesExact 9 t = owns (c : Thread nD τ) (ms0_9 t) fullShare ((dats m 0 c).after 9 t) from by
      unfold Dat.leavesExact; rw [h.1, (Bool.not_eq_false _).mp hf]]
    iintro ⟨%d, H⟩
    have e : (dats m 0 c).before 9 t d = (dats m 0 c).after 9 t := by
      rw [(dats m 0 c).before_out_traj 9 rfl (fun _ _ => rfl) (fun t h0 hi _ => carry9 m c t h0 hi) t.val t rfl d, hf']
      have h0 : t.val ≠ 0 := fun h0 => by
        have : cfg0.fresh 9 t.val = true := by rw [h0]; exact Pipeline.Cfg.fresh_zero cfg0 9
        rw [this] at hf'; exact Bool.noConfusion hf'
      exact (carry9 m c t h0 h.1).symm
    rw [← e]
    iexact H
/-- At a point that leaves window 10 alone, its buffer's contents are those of the point before. -/
theorem carry10 (c : Dev nD) (t : Fin cfg0.N) (h0 : t.val ≠ 0) (hi : cfg0.idle 10 (cfg0.grid.coords t) = true) :
    (dats m 0 c).after 10 t = (dats m 0 c).after 10 ⟨t.val - 1, by omega⟩ := by
  rw [after0_10, after0_10]
  exact congrArg (outC m c) ((by decide +kernel : ∀ t : Fin cfg0.N, t.val ≠ 0 → cfg0.idle 10 (cfg0.grid.coords t) = true →
    ptV t = ptV ⟨t.val - 1, by omega⟩) t h0 hi)
/-- So such a point leaves the buffer as it should be. -/
theorem pass10 (c : Dev nD) (t : Fin cfg0.N) (h : cfg0.idle 10 (cfg0.grid.coords t) = true
      ∧ ((cfg0.win 10).flush t = false ∨ cfg0.fresh 10 t.val = false)) :
    iprop(∃ d, owns (c : Thread nD τ) (ms0_10 t) fullShare ((dats m 0 c).before 10 t d)) ⊢ (dats m 0 c).leavesExact 10 t := by
  by_cases hf : (cfg0.win 10).flush t = false
  · rw [(dats m 0 c).leavesExact_idle 10 t h.1 hf]
  · have hf' := h.2.resolve_left hf
    rw [show (dats m 0 c).leavesExact 10 t = owns (c : Thread nD τ) (ms0_10 t) fullShare ((dats m 0 c).after 10 t) from by
      unfold Dat.leavesExact; rw [h.1, (Bool.not_eq_false _).mp hf]]
    iintro ⟨%d, H⟩
    have e : (dats m 0 c).before 10 t d = (dats m 0 c).after 10 t := by
      rw [(dats m 0 c).before_out_traj 10 rfl (fun _ _ => rfl) (fun t h0 hi _ => carry10 m c t h0 hi) t.val t rfl d, hf']
      have h0 : t.val ≠ 0 := fun h0 => by
        have : cfg0.fresh 10 t.val = true := by rw [h0]; exact Pipeline.Cfg.fresh_zero cfg0 10
        rw [this] at hf'; exact Bool.noConfusion hf'
      exact (carry10 m c t h0 h.1).symm
    rw [← e]
    iexact H
/-- At a point that leaves window 11 alone, its buffer's contents are those of the point before. -/
theorem carry11 (c : Dev nD) (t : Fin cfg0.N) (h0 : t.val ≠ 0) (hi : cfg0.idle 11 (cfg0.grid.coords t) = true) :
    (dats m 0 c).after 11 t = (dats m 0 c).after 11 ⟨t.val - 1, by omega⟩ := by
  rw [after0_11, after0_11]
  exact congrArg (outS m c) ((by decide +kernel : ∀ t : Fin cfg0.N, t.val ≠ 0 → cfg0.idle 11 (cfg0.grid.coords t) = true →
    ptV t = ptV ⟨t.val - 1, by omega⟩) t h0 hi)
/-- So such a point leaves the buffer as it should be. -/
theorem pass11 (c : Dev nD) (t : Fin cfg0.N) (h : cfg0.idle 11 (cfg0.grid.coords t) = true
      ∧ ((cfg0.win 11).flush t = false ∨ cfg0.fresh 11 t.val = false)) :
    iprop(∃ d, owns (c : Thread nD τ) (ms0_11 t) fullShare ((dats m 0 c).before 11 t d)) ⊢ (dats m 0 c).leavesExact 11 t := by
  by_cases hf : (cfg0.win 11).flush t = false
  · rw [(dats m 0 c).leavesExact_idle 11 t h.1 hf]
  · have hf' := h.2.resolve_left hf
    rw [show (dats m 0 c).leavesExact 11 t = owns (c : Thread nD τ) (ms0_11 t) fullShare ((dats m 0 c).after 11 t) from by
      unfold Dat.leavesExact; rw [h.1, (Bool.not_eq_false _).mp hf]]
    iintro ⟨%d, H⟩
    have e : (dats m 0 c).before 11 t d = (dats m 0 c).after 11 t := by
      rw [(dats m 0 c).before_out_traj 11 rfl (fun _ _ => rfl) (fun t h0 hi _ => carry11 m c t h0 hi) t.val t rfl d, hf']
      have h0 : t.val ≠ 0 := fun h0 => by
        have : cfg0.fresh 11 t.val = true := by rw [h0]; exact Pipeline.Cfg.fresh_zero cfg0 11
        rw [this] at hf'; exact Bool.noConfusion hf'
      exact (carry11 m c t h0 h.1).symm
    rw [← e]
    iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3600000 in
/-- The body at one of the ten of `q`: the windows the case writes end at the stored blocks, the others pass through. -/
theorem sound_A (c : Dev nD) (t : Fin cfg0.N) (h : t.val < 10) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (outQ m c t) from by
    unfold Dat.leavesExact; rw [live5 t h, after0_5, show ptQ t = t from if_pos h]]
  iintro ⟨HΦ, Ho, ⟨%d0, H0⟩, ⟨%d1, H1⟩, ⟨%d2, H2⟩, ⟨%d3, H3⟩, ⟨%d4, H4⟩, ⟨%d5, H5⟩, H6, H7, H8, H9, H10, H11⟩
  iapply ((kernelRun0_A c (grid0.coords t) _ _ _ _ _ _ _ _ _ _ _ _ _ _ _ _ _ _ _ _ _ _ _ _ ((hcond0_0 t).mpr h) (fun h1 => absurd ((hcond0_1 t).mp h1) (by omega)) (fun h2 => absurd ((hcond0_2 t).mp h2) (by omega)) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [piecesA_5]; exact View.read_writes_eq_canon _ _ _ (q_cov _ _ _ _ _)
  isplitl [H6]
  · iapply (pass6 m c t (idle6 t (by omega))); iexact H6
  isplitl [H7]
  · iapply (pass7 m c t (idle7 t (by omega))); iexact H7
  isplitl [H8]
  · iapply (pass8 m c t (idle8 t (by omega))); iexact H8
  isplitl [H9]
  · iapply (pass9 m c t (idle9 t (by omega))); iexact H9
  isplitl [H10]
  · iapply (pass10 m c t (idle10 t (by omega))); iexact H10
  iapply (pass11 m c t (idle11 t (by omega))); iexact H11

set_option maxHeartbeats 3600000 in
/-- The body at one of the two of `k`: the windows the case writes end at the stored blocks, the others pass through. -/
theorem sound_B (c : Dev nD) (t : Fin cfg0.N) (h : 10 ≤ t.val ∧ t.val ≤ 11) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 6 t = owns (c : Thread nD τ) (ms0_6 t) fullShare (outKV m c t) from by
    unfold Dat.leavesExact; rw [live6 t h, after0_6, show ptK t = t from (if_neg (by omega)).trans (if_pos h.2)]]
  rw [show (dats m 0 c).leavesExact 8 t = owns (c : Thread nD τ) (ms0_8 t) fullShare (outC m c t) from by
    unfold Dat.leavesExact; rw [live8 t h, after0_8, show ptK t = t from (if_neg (by omega)).trans (if_pos h.2)]]
  rw [show (dats m 0 c).leavesExact 9 t = owns (c : Thread nD τ) (ms0_9 t) fullShare (outS m c t) from by
    unfold Dat.leavesExact; rw [live9 t h, after0_9, show ptK t = t from (if_neg (by omega)).trans (if_pos h.2)]]
  iintro ⟨HΦ, Ho, ⟨%d0, H0⟩, ⟨%d1, H1⟩, ⟨%d2, H2⟩, ⟨%d3, H3⟩, ⟨%d4, H4⟩, H5, ⟨%d6, H6⟩, H7, ⟨%d8, H8⟩, ⟨%d9, H9⟩, H10, H11⟩
  iapply ((kernelRun0_B c (grid0.coords t) _ _ _ _ _ _ _ _ _ _ _ _ _ _ _ _ _ _ _ _ _ _ _ _ (fun h0 => absurd ((hcond0_0 t).mp h0) (by omega)) ((hcond0_1 t).mpr (by omega)) (fun h2 => absurd ((hcond0_2 t).mp h2) (by omega)) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [H8]; · iexists _; iexact H8
  isplitl [H9]; · iexists _; iexact H9
  iintro ⟨H0, H1, H2, H3, H4, ⟨%e6, H6⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (pass5 m c t (idle5 t (by omega))); iexact H5
  isplitl [H6]
  · unfold owns; iexists _; isplitr
    swap; · iexact H6
    ipureintro; rw [piecesB_6]; exact View.read_writes_eq_canon _ _ _ (kv_cov _ _ _ _)
  isplitl [H7]
  · iapply (pass7 m c t (idle7 t (by omega))); iexact H7
  isplitl [H8]
  · unfold owns; iexists _; isplitr
    swap; · iexact H8
    ipureintro; rw [piecesB_8]; exact View.read_writes_eq_canon _ _ _ (code_cov _ _ _ _)
  isplitl [H9]
  · unfold owns; iexists _; isplitr
    swap; · iexact H9
    ipureintro; rw [piecesB_9]; exact View.read_writes_eq_canon _ _ _ (scale_cov _ _ _ _)
  isplitl [H10]
  · iapply (pass10 m c t (idle10 t (by omega))); iexact H10
  iapply (pass11 m c t (idle11 t (by omega))); iexact H11

set_option maxHeartbeats 3600000 in
/-- The body at one of the two of `v`: the windows the case writes end at the stored blocks, the others pass through. -/
theorem sound_C (c : Dev nD) (t : Fin cfg0.N) (h : 12 ≤ t.val) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 7 t = owns (c : Thread nD τ) (ms0_7 t) fullShare (outKV m c t) from by
    unfold Dat.leavesExact; rw [live7 t h, after0_7, show ptV t = t from if_neg (by omega)]]
  rw [show (dats m 0 c).leavesExact 10 t = owns (c : Thread nD τ) (ms0_10 t) fullShare (outC m c t) from by
    unfold Dat.leavesExact; rw [live10 t h, after0_10, show ptV t = t from if_neg (by omega)]]
  rw [show (dats m 0 c).leavesExact 11 t = owns (c : Thread nD τ) (ms0_11 t) fullShare (outS m c t) from by
    unfold Dat.leavesExact; rw [live11 t h, after0_11, show ptV t = t from if_neg (by omega)]]
  iintro ⟨HΦ, Ho, ⟨%d0, H0⟩, ⟨%d1, H1⟩, ⟨%d2, H2⟩, ⟨%d3, H3⟩, ⟨%d4, H4⟩, H5, H6, ⟨%d7, H7⟩, H8, H9, ⟨%d10, H10⟩, ⟨%d11, H11⟩⟩
  iapply ((kernelRun0_C c (grid0.coords t) _ _ _ _ _ _ _ _ _ _ _ _ _ _ _ _ _ _ _ _ _ _ _ _ (fun h0 => absurd ((hcond0_0 t).mp h0) (by omega)) (fun h1 => absurd ((hcond0_1 t).mp h1) (by omega)) ((hcond0_2 t).mpr h) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H7]; · iexists _; iexact H7
  isplitl [H10]; · iexists _; iexact H10
  isplitl [H11]; · iexists _; iexact H11
  iintro ⟨H0, H1, H2, H3, H4, ⟨%e7, H7⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (pass5 m c t (idle5 t (by omega))); iexact H5
  isplitl [H6]
  · iapply (pass6 m c t (idle6 t (by omega))); iexact H6
  isplitl [H7]
  · unfold owns; iexists _; isplitr
    swap; · iexact H7
    ipureintro; rw [piecesC_7]; exact View.read_writes_eq_canon _ _ _ (kv_cov _ _ _ _)
  isplitl [H8]
  · iapply (pass8 m c t (idle8 t (by omega))); iexact H8
  isplitl [H9]
  · iapply (pass9 m c t (idle9 t (by omega))); iexact H9
  isplitl [H10]
  · unfold owns; iexists _; isplitr
    swap; · iexact H10
    ipureintro; rw [piecesC_10]; exact View.read_writes_eq_canon _ _ _ (code_cov _ _ _ _)
  unfold owns; iexists _; isplitr
  swap; · iexact H11
  ipureintro; rw [piecesC_11]; exact View.read_writes_eq_canon _ _ _ (scale_cov _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val < 10
  · exact sound_A m c t h0
  · by_cases h1 : 12 ≤ t.val
    · exact sound_C m c t h1
    · exact sound_B m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, at any `F`: the program runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## The output arrays after the run, named -/

/-- The run with each output array after it named, the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_v2_3) = (dats m 0 c).arrAt 8 cfg0.N
      ∧ r.2.mem ((c : Thread nD τ).loc main_v2_4) = (dats m 0 c).arrAt 9 cfg0.N
      ∧ r.2.mem ((c : Thread nD τ).loc main_v2_5) = (dats m 0 c).arrAt 10 cfg0.N
      ∧ r.2.mem ((c : Thread nD τ).loc main_v2_6) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  θ_run_and ((θ_run defs _ _).mono (fun r h => h) (run_main m ρ)) (unchanged m ρ) |> (θ_run defs _ _).mono (fun r h c => ⟨(h.1 c).1 5, (h.1 c).1 6, (h.1 c).1 7, (h.1 c).1 8, (h.1 c).1 9, (h.1 c).1 10, (h.1 c).1 11, h.2 c⟩)

end Cert.Qkv2Ideal.Gen

end
-- ==== Proof.Qkv2.Read.lean ====
module

public import proofs.«01_k».proof.Proof.Qkv2.Block
public import proofs.«01_k».proof.Proof.Row.Defs
public import Idealize.ShloMosaic.Lib.Pipeline.ValueKit.Geometry
public import Idealize.ShloMosaic.Lib.Pipeline.ValueKit.Acc

@[expose] public section

/-! The blocks stored at one grid point of the second fused projection, read at an index over the extended reals. -/

set_option maxRecDepth 16384

noncomputable section

namespace Cert.Qkv2Eq

open Idealize.ShloMosaic Cert.Qkv2Ideal Cert.Qkv2Ideal.Gen
open scoped BigOperators

/-- Column `b` of head `g` of a block of 512 columns. -/
def col (g : Fin 4) (b : Fin 128) : Fin 512 := ⟨g.val * 128 + b.val, by have := g.isLt; have := b.isLt; omega⟩

/-- Row `q` of head `g`: the product of the row of codes with the head's 128 columns, times the row's scale and the columns' scales. -/
def hd (x0 : Vec Ideal S1792x5120 .fp8e4m3) (x1 : Vec Ideal S1792x128 .f32) (x3 : Vec Ideal S5120x512 .fp8e4m3)
    (x4 : Vec Ideal S1x512 .f32) (q : Fin 1792) (g : Fin 4) (b : Fin 128) : EReal :=
  (∑ k : Fin 5120, x0 (ix2 q k) * x3 (ix2 k (col g b))) * x1 (ix2 q b) * x4 (ix2 0 (col g b))

variable (x0 : Vec Ideal S1792x5120 .fp8e4m3) (x1 x2 : Vec Ideal S1792x128 .f32) (x3 : Vec Ideal S5120x512 .fp8e4m3) (x4 : Vec Ideal S1x512 .f32)

/-- The kernel's head, at an index. -/
theorem head_apply (r c : ℕ) (h0 h1 h4 hs) (a : Fin 256) (b : Fin 128) (q : Fin 1792) (g : Fin 4)
    (hq : q.val = r + a.val) (hg : c = g.val * 128) :
    head x0 x1 x3 x4 r c h0 h1 h4 hs (ix2 a b) = hd x0 x1 x3 x4 q g b := by
  unfold head scaled hd
  pointwise [dot_S256x5120_S5120x512_S256x512_1_0_0_1_n_n]
  obtain ⟨q, hlt⟩ := q
  obtain rfl : q = r + a.val := hq
  subst hg
  rfl

section Blocks
variable (t : FVec Ideal S256x128 .f32)

/-- The scale of row `a` of a head. -/
theorem scaleOf_apply (a : Fin 256) : scaleOf t (ix2 a 0) = Row.scale (fun b : Fin 128 => t (ix2 a b)) := by
  unfold scaleOf Row.scale
  refine (Row.select_scale _ _).trans (congrArg _ ?_)
  unfold amaxOf Row.amax
  pointwise

/-- The codes of row `a` of a head. -/
theorem codesOf_apply (a : Fin 256) (b : Fin 128) : codesOf t (ix2 a b) = Row.code (fun b : Fin 128 => t (ix2 a b)) b := by
  unfold codesOf Row.code
  refine (Row.clip_div _ _ _ _).trans (congrArg _ ?_)
  pointwise [scaleOf_apply]

/-- The scales put in a lane. -/
theorem putLane_apply (l : BitVec 32) (prev : FVec Ideal S256x4 .f32) (a : Fin 256) (g : Fin 4) :
    putLane l t prev (ix2 a g)
      = if BitVec.ofNat 32 g.val = l then Row.scale (fun b : Fin 128 => t (ix2 a b)) else prev (ix2 a g) := by
  unfold putLane
  pointwise [scaleOf_apply]
  by_cases h : BitVec.ofNat 32 g.val = l
  · subst h; simp [IntOp.cmpi, Scalar.select]
  · have hb : (BitVec.ofNat 32 g.val == l) = false := by simpa using h
    simp only [IntOp.cmpi, Scalar.select, hb, if_neg h]
    rfl

/-- The four lanes of scales. -/
theorem scalesOf_apply (t : Fin 4 → FVec Ideal S256x128 .f32) (a : Fin 256) (g : Fin 4) :
    scalesOf (t 0) (t 1) (t 2) (t 3) (ix3 0 a g) = Row.scale (fun b : Fin 128 => t g (ix2 a b)) := by
  unfold scalesOf
  pointwise [putLane_apply]
  match g with
  | 0 => rfl
  | 1 => rfl
  | 2 => rfl
  | 3 => rfl

end Blocks

/-- The head that column `n` of 512 lies in, and its place in the head. -/
def hOf (n : Fin 512) : Fin 4 := ⟨n.val / 128, by have := n.isLt; omega⟩
def lOf (n : Fin 512) : Fin 128 := ⟨n.val % 128, Nat.mod_lt _ (by omega)⟩

/-- A stored block of 256 rows and one head keeps its place: index `(a, b)` of it is row `r + a` and column `b` of the head. -/
theorem emb2 (r c : ℕ) (h : ∀ a, (![r, c] : Fin 2 → ℕ) a + S256x128.size a ≤ S1792x512.size a) (hc : c % 128 = 0)
    (x : S256x128.Idx) :
    ∃ (q : Fin 1792) (g : Fin 4), q.val = r + (x 0).val ∧ c = g.val * 128
      ∧ (Rect.unit (s := S1792x512) ![r, c] S256x128.size h).emb x 0 = q
      ∧ hOf ((Rect.unit (s := S1792x512) ![r, c] S256x128.size h).emb x 1) = g
      ∧ lOf ((Rect.unit (s := S1792x512) ![r, c] S256x128.size h).emb x 1) = x 1 := by
  have hr : r + 256 ≤ 1792 := h 0
  have hc' : c + 128 ≤ 512 := h 1
  have hx0 : (x 0).val < 256 := (x 0).isLt
  have hx1 : (x 1).val < 128 := (x 1).isLt
  refine ⟨⟨r + (x 0).val, by omega⟩, ⟨c / 128, by omega⟩, rfl, by show c = c / 128 * 128; omega, Fin.ext ?_, Fin.ext ?_, Fin.ext ?_⟩
  · show r + 1 * (x 0).val = r + (x 0).val; omega
  · show (c + 1 * (x 1).val) / 128 = c / 128; omega
  · show (c + 1 * (x 1).val) % 128 = (x 1).val; omega

/-- What a block of `q` holds at an index of the 1792 rows and 512 columns. -/
def qVal (y : S1792x512.Idx) : EReal := hd x0 x1 x3 x4 (y 0) (hOf (y 1)) (lOf (y 1)) * x2 (ix2 (y 0) (lOf (y 1)))

/-- What a block of `k` or `v` holds. -/
def kvVal (y : S1792x512.Idx) : EReal := hd x0 x1 x3 x4 (y 0) (hOf (y 1)) (lOf (y 1))

/-- What a block of codes holds. -/
def codeVal (y : S1792x512.Idx) : EReal := Row.code (hd x0 x1 x3 x4 (y 0) (hOf (y 1))) (lOf (y 1))

/-- What a block of scales holds. -/
def scaleVal (y : S1x1792x4.Idx) : EReal := Row.scale (hd x0 x1 x3 x4 (y 1) (y 2))

/-- One stored block of `q`. -/
theorem q_piece (r c : ℕ) (h0 h1 h4 hs h2) (h : ∀ a, (![r, c] : Fin 2 → ℕ) a + S256x128.size a ≤ S1792x512.size a)
    (hc : c % 128 = 0) (x : S256x128.Idx) :
    qOf (head x0 x1 x3 x4 r c h0 h1 h4 hs) (View.ld x2 (Rect.unit (s := S1792x128) ![r, 0] S256x128.size h2)) x
      = qVal x0 x1 x2 x3 x4 ((Rect.unit (s := S1792x512) ![r, c] S256x128.size h).emb x) := by
  obtain ⟨q, g, hq, hg, e0, e1, e2⟩ := emb2 r c h hc x
  unfold qVal
  rw [e0, e1, e2]
  refine (congrArg _ (eq_ix2 x)).trans ?_
  unfold qOf
  pointwise
  refine congrArg₂ (· * ·) ((congrArg _ (eq_ix2 x)).trans (head_apply x0 x1 x3 x4 r c h0 h1 h4 hs _ _ q g hq hg)) ?_
  obtain ⟨q, hlt⟩ := q
  obtain rfl : q = r + (x 0).val := hq
  rfl

/-- One stored block of `k` or `v`. -/
theorem kv_piece (r c : ℕ) (h0 h1 h4 hs) (h : ∀ a, (![r, c] : Fin 2 → ℕ) a + S256x128.size a ≤ S1792x512.size a)
    (hc : c % 128 = 0) (x : S256x128.Idx) :
    kvOf (head x0 x1 x3 x4 r c h0 h1 h4 hs) x
      = kvVal x0 x1 x3 x4 ((Rect.unit (s := S1792x512) ![r, c] S256x128.size h).emb x) := by
  obtain ⟨q, g, hq, hg, e0, e1, e2⟩ := emb2 r c h hc x
  unfold kvVal
  rw [e0, e1, e2]
  refine (congrArg _ (eq_ix2 x)).trans ?_
  exact head_apply x0 x1 x3 x4 r c h0 h1 h4 hs _ _ q g hq hg

/-- One stored block of codes. -/
theorem code_piece (r c : ℕ) (h0 h1 h4 hs) (h : ∀ a, (![r, c] : Fin 2 → ℕ) a + S256x128.size a ≤ S1792x512.size a)
    (hc : c % 128 = 0) (x : S256x128.Idx) :
    codesOf (head x0 x1 x3 x4 r c h0 h1 h4 hs) x
      = codeVal x0 x1 x3 x4 ((Rect.unit (s := S1792x512) ![r, c] S256x128.size h).emb x) := by
  obtain ⟨q, g, hq, hg, e0, e1, e2⟩ := emb2 r c h hc x
  unfold codeVal
  rw [e0, e1, e2]
  refine (congrArg _ (eq_ix2 x)).trans ((codesOf_apply _ _ _).trans (congrArg (fun f => Row.code f _) (funext fun b => ?_)))
  exact head_apply x0 x1 x3 x4 r c h0 h1 h4 hs _ _ q g hq hg

/-- One stored block of scales. -/
theorem scale_piece (r : ℕ) (h0 h1) (h4 : ∀ g : Fin 4, ∀ a, (![0, g.val * 128] : Fin 2 → ℕ) a + S1x128.size a ≤ S1x512.size a)
    (hs : ∀ g : Fin 4, S256x512.Slices ![0, g.val * 128] S256x128)
    (h : ∀ a, (![0, r, 0] : Fin 3 → ℕ) a + S1x256x4.size a ≤ S1x1792x4.size a) (x : S1x256x4.Idx) :
    scalesOf (head x0 x1 x3 x4 r 0 h0 h1 (h4 0) (hs 0)) (head x0 x1 x3 x4 r 128 h0 h1 (h4 1) (hs 1))
        (head x0 x1 x3 x4 r 256 h0 h1 (h4 2) (hs 2)) (head x0 x1 x3 x4 r 384 h0 h1 (h4 3) (hs 3)) x
      = scaleVal x0 x1 x3 x4 ((Rect.unit (s := S1x1792x4) ![0, r, 0] S1x256x4.size h).emb x) := by
  have hr : r + 256 ≤ 1792 := h 1
  have hx1 : (x 1).val < 256 := (x 1).isLt
  have e : x = ix3 (0 : Fin 1) (x 1) (x 2) :=
    (eq_ix3 x).trans (congrArg (fun o : Fin 1 => ix3 o (x 1 : Fin 256) (x 2 : Fin 4)) (Subsingleton.elim (α := Fin 1) _ _))
  have e1 : (Rect.unit (s := S1x1792x4) ![0, r, 0] S1x256x4.size h).emb x 1 = (⟨r + (x 1).val, by omega⟩ : Fin 1792) :=
    Fin.ext (by show r + 1 * (x 1).val = r + (x 1).val; omega)
  have e2 : (Rect.unit (s := S1x1792x4) ![0, r, 0] S1x256x4.size h).emb x 2 = x 2 :=
    Fin.ext (by show 0 + 1 * (x 2).val = (x 2).val; omega)
  unfold scaleVal
  rw [e1, e2]
  refine (congrArg _ e).trans ((scalesOf_apply (fun g : Fin 4 => head x0 x1 x3 x4 r (g.val * 128) h0 h1 (h4 g) (hs g)) _ _).trans
    (congrArg Row.scale (funext fun b => ?_)))
  exact head_apply x0 x1 x3 x4 r _ h0 h1 _ _ _ _ _ _ rfl rfl

/-- The stored blocks cover the 1792 rows and 512 columns. -/
theorem q_cover (y : S1792x512.Idx) : ∃ p ∈ qPieces x0 x1 x2 x3 x4, y ∈ p.1.set :=
  View.cover_of_tiled (qPieces x0 x1 x2 x3 x4) S256x128.size (by rfl) y
theorem kv_cover (y : S1792x512.Idx) : ∃ p ∈ kvPieces x0 x1 x3 x4, y ∈ p.1.set :=
  View.cover_of_tiled (kvPieces x0 x1 x3 x4) S256x128.size (by rfl) y
theorem code_cover (y : S1792x512.Idx) : ∃ p ∈ codePieces x0 x1 x3 x4, y ∈ p.1.set :=
  View.cover_of_tiled (codePieces x0 x1 x3 x4) S256x128.size (by rfl) y
theorem scale_cover (y : S1x1792x4.Idx) : ∃ p ∈ scalePieces x0 x1 x3 x4, y ∈ p.1.set :=
  View.cover_of_tiled (scalePieces x0 x1 x3 x4) S1x256x4.size (by rfl) y

/-- Block offsets in range, from the two bounds. -/
theorem inb_of (r c : ℕ) (h : r + 256 ≤ 1792 ∧ c + 128 ≤ 512) :
    ∀ a, (![r, c] : Fin 2 → ℕ) a + S256x128.size a ≤ S1792x512.size a
  | 0 => h.1
  | 1 => h.2
theorem inb_of3 (r : ℕ) (h : r + 256 ≤ 1792) :
    ∀ a, (![0, r, 0] : Fin 3 → ℕ) a + S1x256x4.size a ≤ S1x1792x4.size a
  | 0 => le_refl 1
  | 1 => h
  | 2 => le_refl 4

/-- What is stored of `q`, at an index. -/
theorem q_apply (y : S1792x512.Idx) : View.canon (Val := Elt Ideal) (qPieces x0 x1 x2 x3 x4) y = qVal x0 x1 x2 x3 x4 y := by
  refine View.canon_apply_of_pieces (Val := Elt Ideal) (e := .bf16) (qVal x0 x1 x2 x3 x4) _ ?_ y (q_cover x0 x1 x2 x3 x4 y)
  intro p hp x
  simp only [qPieces, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl
  all_goals exact q_piece x0 x1 x2 x3 x4 _ _ _ _ _ _ _ (inb_of _ _ (by decide)) rfl x

/-- What is stored of `k` or `v`, at an index. -/
theorem kv_apply (y : S1792x512.Idx) : View.canon (Val := Elt Ideal) (kvPieces x0 x1 x3 x4) y = kvVal x0 x1 x3 x4 y := by
  refine View.canon_apply_of_pieces (Val := Elt Ideal) (e := .bf16) (kvVal x0 x1 x3 x4) _ ?_ y (kv_cover x0 x1 x3 x4 y)
  intro p hp x
  simp only [kvPieces, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl
  all_goals exact kv_piece x0 x1 x3 x4 _ _ _ _ _ _ (inb_of _ _ (by decide)) rfl x

/-- What is stored of the codes, at an index. -/
theorem code_apply (y : S1792x512.Idx) : View.canon (Val := Elt Ideal) (codePieces x0 x1 x3 x4) y = codeVal x0 x1 x3 x4 y := by
  refine View.canon_apply_of_pieces (Val := Elt Ideal) (e := .fp8e4m3) (codeVal x0 x1 x3 x4) _ ?_ y (code_cover x0 x1 x3 x4 y)
  intro p hp x
  simp only [codePieces, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl
  all_goals exact code_piece x0 x1 x3 x4 _ _ _ _ _ _ (inb_of _ _ (by decide)) rfl x

/-- The offsets of the four heads are in range. -/
theorem h4s (g : Fin 4) : ∀ a, (![0, g.val * 128] : Fin 2 → ℕ) a + S1x128.size a ≤ S1x512.size a :=
  (by decide : ∀ g : Fin 4, ∀ a, (![0, g.val * 128] : Fin 2 → ℕ) a + S1x128.size a ≤ S1x512.size a) g
theorem hss (g : Fin 4) : S256x512.Slices ![0, g.val * 128] S256x128 :=
  match g with
  | 0 => slices_S256x512_o0_0_S256x128
  | 1 => slices_S256x512_o0_128_S256x128
  | 2 => slices_S256x512_o0_256_S256x128
  | 3 => slices_S256x512_o0_384_S256x128

/-- What is stored of the scales, at an index. -/
theorem scale_apply (y : S1x1792x4.Idx) : View.canon (Val := Elt Ideal) (scalePieces x0 x1 x3 x4) y = scaleVal x0 x1 x3 x4 y := by
  refine View.canon_apply_of_pieces (Val := Elt Ideal) (e := .f32) (scaleVal x0 x1 x3 x4) _ ?_ y (scale_cover x0 x1 x3 x4 y)
  intro p hp x
  simp only [scalePieces, List.mem_cons, List.not_mem_nil, or_false] at hp
  rcases hp with rfl | rfl | rfl | rfl | rfl | rfl | rfl
  all_goals exact scale_piece x0 x1 x3 x4 _ _ _ h4s hss (inb_of3 _ (by decide)) x

end Cert.Qkv2Eq

end
-- ==== Proof.Qkv2.Ref.lean ====
module

public import proofs.«01_k».proof.Proof.Gen.Qkv2RefIdeal.Value
public import proofs.«01_k».proof.Proof.Row.Defs

@[expose] public section

/-! What the reference of the second fused projection computes, as functions of the arguments. -/

set_option maxRecDepth 16384

noncomputable section

namespace Cert.Qkv2Eq

open Idealize.ShloMosaic Cert.Qkv2RefIdeal Cert.Qkv2RefIdeal.Gen
open scoped BigOperators

/-- Entry `(r, n)` of the projection: `(codes · weights) * scales * weight scales`. -/
def P (C : S1792x5120.Idx → EReal) (s : S1792x1.Idx → EReal) (W : S5120x7168.Idx → EReal) (ws : S1x7168.Idx → EReal)
    (r : Fin 1792) (n : Fin 7168) : EReal :=
  (∑ k : Fin 5120, C (ix2 r k) * W (ix2 k n)) * s (ix2 r 0) * ws (ix2 0 n)

/-- Column `n` of the 1024 that begin at column `o`. -/
def at1024 (o : ℕ) (ho : o + 1024 ≤ 7168) (n : Fin 1024) : Fin 7168 := ⟨o + n.val, by have := n.isLt; omega⟩

/-- Column `b` of head `g` of 1024. -/
def col8 (g : Fin 8) (b : Fin 128) : Fin 1024 := ⟨g.val * 128 + b.val, by have := g.isLt; have := b.isLt; omega⟩

/-- The head a column of 1024 is in, and its place in the head. -/
def head8 (n : Fin 1024) : Fin 8 := ⟨n.val / 128, by have := n.isLt; omega⟩
def lane8 (n : Fin 1024) : Fin 128 := ⟨n.val % 128, Nat.mod_lt _ (by omega)⟩

/-- The head that entry `i` of the two rows of four scales belongs to. -/
def headOf (i : S2x1792x4.Idx) : Fin 8 :=
  ⟨(i 0).val * 4 + (i 2).val, by
    have h0 : (i 0).val < 2 := (i 0).isLt
    have h2 : (i 2).val < 4 := (i 2).isLt
    omega⟩

theorem hk : 5120 + 1024 ≤ 7168 := by decide
theorem hv : 6144 + 1024 ≤ 7168 := by decide

section
variable (C : S1792x5120.Idx → EReal) (s T : S1792x1.Idx → EReal) (W : S5120x7168.Idx → EReal) (ws : S1x7168.Idx → EReal)

/-- Row `r` of head `g` of the 1024 columns that begin at column `o`. -/
def HD (o : ℕ) (ho : o + 1024 ≤ 7168) (r : Fin 1792) (g : Fin 8) (b : Fin 128) : EReal :=
  P C s W ws r (at1024 o ho (col8 g b))

/-- The queries, times each row's temperature. -/
def Y5 : S1792x5120.Idx → EReal := fun i => P C s W ws (i 0) ((i 1).castLE (by decide : 5120 ≤ 7168)) * T (ix2 (i 0) 0)
/-- The keys (`o` = 5120) or the values (`o` = 6144). -/
def YP (o : ℕ) (ho : o + 1024 ≤ 7168) : S1792x1024.Idx → EReal := fun i => P C s W ws (i 0) (at1024 o ho (i 1))
/-- Their codes. -/
def YC (o : ℕ) (ho : o + 1024 ≤ 7168) : S1792x1024.Idx → EReal := fun i =>
  Row.code (HD C s W ws o ho (i 0) (head8 (i 1))) (lane8 (i 1))
/-- Their scales. -/
def YS (o : ℕ) (ho : o + 1024 ≤ 7168) : S2x1792x4.Idx → EReal := fun i => Row.scale (HD C s W ws o ho (i 1) (headOf i))
end

section Quantiser
variable (Z : FVec Ideal S1792x1024 .f32)

/-- The reference's view of 1024 columns as 8 heads of 128. -/
theorem heads_apply (r : Fin 1792) (g : Fin 8) (b : Fin 128) : k0_pay17 (F := Ideal) Z (ix3 r g b) = Z (ix2 r (col8 g b)) := by
  unfold k0_pay17
  pointwise
  rfl

/-- Its scale of a head's row. -/
theorem scales_apply (r : Fin 1792) (g : Fin 8) :
    k0_pay18 (F := Ideal) Z (ix3 r g 0) = Row.scale (fun b : Fin 128 => Z (ix2 r (col8 g b))) := by
  unfold k0_pay18 Row.scale
  refine (Row.select_scale _ _).trans (congrArg _ ?_)
  unfold Row.amax
  pointwise [heads_apply]

/-- An entry of 8 heads of 128 written as 1024 columns is the entry of its head and its place there. -/
theorem flat_apply (U : FVec Ideal S1792x8x128 .fp8e4m3) (r : Fin 1792) (n : Fin 1024) :
    shapeCast S1792x1024 U shapeCasts_S1792x8x128_S1792x1024 (ix2 r n) = U (ix3 r (head8 n) (lane8 n)) := by
  pointwise
  rfl

/-- The scale of a head's row, broadcast over the head. -/
theorem wide_apply (r : Fin 1792) (g : Fin 8) (b : Fin 128) :
    broadcastTo S1792x8x128 (k0_pay18 (F := Ideal) Z) broadcasts_S1792x8x1_S1792x8x128 (ix3 r g b)
      = Row.scale (fun b : Fin 128 => Z (ix2 r (col8 g b))) := by
  pointwise [scales_apply]

/-- Its codes of a head's row, -/
theorem codes_at (r : Fin 1792) (n : Fin 1024) :
    k0_pay19 (F := Ideal) Z (ix2 r n) = Row.code (fun b : Fin 128 => Z (ix2 r (col8 (head8 n) b))) (lane8 n) := by
  unfold k0_pay19 Row.code
  refine (flat_apply _ r n).trans ((Row.clip_div _ _ _ _).trans ?_)
  rw [heads_apply, wide_apply]

/-- at any index. -/
theorem codes_apply (i : S1792x1024.Idx) :
    k0_pay19 (F := Ideal) Z i = Row.code (fun b : Fin 128 => Z (ix2 (i 0) (col8 (head8 (i 1)) b))) (lane8 (i 1)) :=
  (congrArg (k0_pay19 (F := Ideal) Z) (eq_ix2 i)).trans (codes_at Z (i 0) (i 1))

end Quantiser

section Reference
variable (C : Vec Ideal S1792x5120 .fp8e4m3) (s T : Vec Ideal S1792x1 .f32) (W : Vec Ideal S5120x7168 .fp8e4m3) (ws : Vec Ideal S1x7168 .f32)

/-- The reference's projection. -/
theorem ref_P (r : Fin 1792) (n : Fin 7168) : k0_pay3 (F := Ideal) C W s ws (ix2 r n) = P C s W ws r n := by
  unfold P k0_pay3
  pointwise [dot_S1792x5120_S5120x7168_S1792x7168_1_0_0_1_n_n]

/-- Its keys, -/
theorem ref_k (r : Fin 1792) (n : Fin 1024) : k0_pay4 (F := Ideal) C W s ws (ix2 r n) = P C s W ws r (at1024 5120 hk n) := by
  unfold k0_pay4
  pointwise [ref_P]
  rfl

/-- its values. -/
theorem ref_v (r : Fin 1792) (n : Fin 1024) : k0_pay5 (F := Ideal) C W s ws (ix2 r n) = P C s W ws r (at1024 6144 hv n) := by
  unfold k0_pay5
  pointwise [ref_P]
  rfl

/-- The reference's results. -/
theorem ref_eq5 : Qkv2RefIdeal.Value.G5 (F := Ideal) C s T W ws = Y5 C s T W ws := by
  funext i
  refine (congrArg _ (eq_ix2 i)).trans ?_
  unfold Qkv2RefIdeal.Value.G5 k0_pay6 Y5
  pointwise [ref_P]
  rfl

theorem ref_eq6 : Qkv2RefIdeal.Value.G6 (F := Ideal) C s T W ws = YP C s W ws 5120 hk := by
  funext i
  exact (congrArg _ (eq_ix2 i)).trans (ref_k C s W ws _ _)

theorem ref_eq7 : Qkv2RefIdeal.Value.G7 (F := Ideal) C s T W ws = YP C s W ws 6144 hv := by
  funext i
  exact (congrArg _ (eq_ix2 i)).trans (ref_v C s W ws _ _)

theorem ref_eq8 : Qkv2RefIdeal.Value.G8 (F := Ideal) C s T W ws = YC C s W ws 5120 hk := by
  funext i
  refine (show _ = k0_pay19 (F := Ideal) (k0_pay4 (F := Ideal) C W s ws) i from rfl).trans ((codes_apply _ i).trans ?_)
  exact congrArg (fun f => Row.code f _) (funext fun b => ref_k C s W ws _ _)

theorem ref_eq10 : Qkv2RefIdeal.Value.G10 (F := Ideal) C s T W ws = YC C s W ws 6144 hv := by
  funext i
  refine (show _ = k0_pay19 (F := Ideal) (k0_pay5 (F := Ideal) C W s ws) i from ?_).trans ((codes_apply _ i).trans ?_)
  · show k0_pay19 (k0_pay22 (F := Ideal) C s T W ws) i = _
    unfold k0_pay22
    rw [View.ld_unit_zero (S := S1792x5120) Qkv2RefIdeal.Value.hz0 _ C, View.ld_unit_zero (S := S1792x1) Qkv2RefIdeal.Value.hz0 _ s,
      View.ld_unit_zero (S := S5120x7168) Qkv2RefIdeal.Value.hz0 _ W, View.ld_unit_zero (S := S1x7168) Qkv2RefIdeal.Value.hz0 _ ws]
  exact congrArg (fun f => Row.code f _) (funext fun b => ref_v C s W ws _ _)

end Reference

end Cert.Qkv2Eq

end
-- ==== Proof.Qkv2.RefScales.lean ====
module

public import proofs.«01_k».proof.Proof.Qkv2.Ref

@[expose] public section

/-! The scales that the reference of the second fused projection computes, as functions of the arguments. -/

set_option maxRecDepth 16384

noncomputable section

namespace Cert.Qkv2Eq

open Idealize.ShloMosaic Cert.Qkv2RefIdeal Cert.Qkv2RefIdeal.Gen
open scoped BigOperators

section Quantiser
variable (Z : FVec Ideal S1792x1024 .f32)

/-- The scales of the 8 heads, side by side. -/
theorem side_apply (r : Fin 1792) (g : Fin 8) :
    k0_pay20 (F := Ideal) Z (ix2 r g) = Row.scale (fun b : Fin 128 => Z (ix2 r (col8 g b))) := by
  unfold k0_pay20
  pointwise [scales_apply]

/-- Those of the first four, -/
theorem first_apply (r : Fin 1792) (g : Fin 4) : k0_pay1 (F := Ideal) (k0_pay21 (F := Ideal) Z) (ix3 0 r g)
    = Row.scale (fun b : Fin 128 => Z (ix2 r (col8 ⟨g.val, by have := g.isLt; omega⟩ b))) := by
  unfold k0_pay1 k0_pay21
  pointwise [side_apply]

/-- and of the last four. -/
theorem last_apply (r : Fin 1792) (g : Fin 4) : k0_pay2 (F := Ideal) (k0_pay20 (F := Ideal) Z) (ix3 0 r g)
    = Row.scale (fun b : Fin 128 => Z (ix2 r (col8 ⟨4 + g.val, by have := g.isLt; omega⟩ b))) := by
  unfold k0_pay2
  pointwise [side_apply]

/-- The stored scales of a head's row. -/
def SV (y : S2x1792x4.Idx) : EReal := Row.scale (fun b : Fin 128 => Z (ix2 (y 1) (col8 (headOf y) b)))

/-- The two stores of scales. -/
def scaleStores : List (View.Piece (Elt Ideal) S2x1792x4 .f32) :=
  [⟨r0_6, k0_pay2 (F := Ideal) (k0_pay20 (F := Ideal) Z)⟩, ⟨r0_5, k0_pay1 (F := Ideal) (k0_pay21 (F := Ideal) Z)⟩]

/-- They cover the two rows of four. -/
theorem stores_cover (y : S2x1792x4.Idx) : ∃ p ∈ scaleStores Z, y ∈ p.1.set :=
  View.cover_of_tiled (scaleStores Z) S1x1792x4.size (by rfl) y

theorem eq_row (x : S1x1792x4.Idx) : x = ix3 (0 : Fin 1) (x 1) (x 2) :=
  (eq_ix3 x).trans (congrArg (fun o : Fin 1 => ix3 o (x 1 : Fin 1792) (x 2 : Fin 4)) (Subsingleton.elim (α := Fin 1) _ _))

theorem first_at (x : S1x1792x4.Idx) : k0_pay1 (F := Ideal) (k0_pay21 (F := Ideal) Z) x
    = Row.scale (fun b : Fin 128 => Z (ix2 (x 1) (col8 ⟨(x 2).val, by have h : (x 2).val < 4 := (x 2).isLt; omega⟩ b))) :=
  (congrArg (k0_pay1 (F := Ideal) (k0_pay21 (F := Ideal) Z)) (eq_row x)).trans (first_apply Z (x 1) (x 2))

theorem last_at (x : S1x1792x4.Idx) : k0_pay2 (F := Ideal) (k0_pay20 (F := Ideal) Z) x
    = Row.scale (fun b : Fin 128 => Z (ix2 (x 1) (col8 ⟨4 + (x 2).val, by have h : (x 2).val < 4 := (x 2).isLt; omega⟩ b))) :=
  (congrArg (k0_pay2 (F := Ideal) (k0_pay20 (F := Ideal) Z)) (eq_row x)).trans (last_apply Z (x 1) (x 2))

/-- Each store holds the scales of its heads. -/
theorem last_piece (x : r0_6.shape.Idx) : k0_pay2 (F := Ideal) (k0_pay20 (F := Ideal) Z) x = SV Z (r0_6.emb x) := by
  have e1 : r0_6.emb x 1 = (x 1 : Fin 1792) := Fin.ext (by show 0 + 1 * (x 1).val = (x 1).val; omega)
  have e2 : headOf (r0_6.emb x) = ⟨4 + (x 2).val, by have h : (x 2).val < 4 := (x 2).isLt; omega⟩ :=
    Fin.ext (by
      have hx0 : (x 0).val < 1 := (x 0).isLt
      show (1 + 1 * (x 0).val) * 4 + (0 + 1 * (x 2).val) = 4 + (x 2).val
      omega)
  unfold SV
  rw [e1, e2]
  exact last_at Z x

theorem first_piece (x : r0_5.shape.Idx) : k0_pay1 (F := Ideal) (k0_pay21 (F := Ideal) Z) x = SV Z (r0_5.emb x) := by
  have e1 : r0_5.emb x 1 = (x 1 : Fin 1792) := Fin.ext (by show 0 + 1 * (x 1).val = (x 1).val; omega)
  have e2 : headOf (r0_5.emb x) = ⟨(x 2).val, by have h : (x 2).val < 4 := (x 2).isLt; omega⟩ :=
    Fin.ext (by
      have hx0 : (x 0).val < 1 := (x 0).isLt
      show (0 + 1 * (x 0).val) * 4 + (0 + 1 * (x 2).val) = (x 2).val
      omega)
  unfold SV
  rw [e1, e2]
  exact first_at Z x

/-- The two rows of four scales. -/
theorem stores_apply (y : S2x1792x4.Idx) : View.canon (Val := Elt Ideal) (scaleStores Z) y = SV Z y := by
  refine View.canon_apply_of_pieces (Val := Elt Ideal) (e := .f32) (SV Z) _ ?_ y (stores_cover Z y)
  intro p hp x
  simp only [scaleStores, List.mem_cons, List.not_mem_nil, or_false] at hp
  rcases hp with rfl | rfl
  · dsimp only
    exact last_piece Z x
  · dsimp only
    exact first_piece Z x

end Quantiser

section Reference
variable (C : Vec Ideal S1792x5120 .fp8e4m3) (s T : Vec Ideal S1792x1 .f32) (W : Vec Ideal S5120x7168 .fp8e4m3) (ws : Vec Ideal S1x7168 .f32)

/-- The loads of the whole arguments read the arguments. -/
theorem pay22_eq : k0_pay22 (F := Ideal) C s T W ws = k0_pay5 (F := Ideal) C W s ws := by
  unfold k0_pay22
  rw [View.ld_unit_zero (S := S1792x5120) Qkv2RefIdeal.Value.hz0 _ C, View.ld_unit_zero (S := S1792x1) Qkv2RefIdeal.Value.hz0 _ s,
    View.ld_unit_zero (S := S5120x7168) Qkv2RefIdeal.Value.hz0 _ W, View.ld_unit_zero (S := S1x7168) Qkv2RefIdeal.Value.hz0 _ ws]
theorem pay23_eq : k0_pay23 (F := Ideal) C s T W ws = k0_pay18 (F := Ideal) (k0_pay4 (F := Ideal) C W s ws) := by
  unfold k0_pay23
  rw [View.ld_unit_zero (S := S1792x5120) Qkv2RefIdeal.Value.hz0 _ C, View.ld_unit_zero (S := S1792x1) Qkv2RefIdeal.Value.hz0 _ s,
    View.ld_unit_zero (S := S5120x7168) Qkv2RefIdeal.Value.hz0 _ W, View.ld_unit_zero (S := S1x7168) Qkv2RefIdeal.Value.hz0 _ ws]
  unfold k0_pay10 k0_pay18 k0_pay9 k0_pay17
  rfl

/-- The scales of the values. -/
theorem ref_eq11 : Qkv2RefIdeal.Value.G11 (F := Ideal) C s T W ws = YS C s W ws 6144 hv := by
  funext i
  unfold Qkv2RefIdeal.Value.G11
  rw [pay22_eq]
  refine (stores_apply (k0_pay5 (F := Ideal) C W s ws) i).trans ?_
  exact congrArg Row.scale (funext fun b => ref_v C s W ws _ _)

/-- The scales of the keys. -/
theorem ref_eq9 : Qkv2RefIdeal.Value.G9 (F := Ideal) C s T W ws = YS C s W ws 5120 hk := by
  funext i
  unfold Qkv2RefIdeal.Value.G9
  rw [pay23_eq]
  refine (stores_apply (k0_pay4 (F := Ideal) C W s ws) i).trans ?_
  exact congrArg Row.scale (funext fun b => ref_k C s W ws _ _)

end Reference

end Cert.Qkv2Eq

end
-- ==== Proof.Qkv2.Array.lean ====
module

public import proofs.«01_k».proof.Proof.Qkv2.Ideal.Frame
public import proofs.«01_k».proof.Proof.Qkv2.Read
public import proofs.«01_k».proof.Proof.Qkv2.RefScales
public import Idealize.ShloMosaic.Lib.StableHlo.ReadAt

@[expose] public section

/-! The seven result arrays of the second fused projection are the functions of the arguments that its reference computes. -/

set_option maxRecDepth 16384

noncomputable section

namespace Cert.Qkv2Eq

open Idealize.ShloMosaic Idealize.ShloMosaic.TcCoe Cert.Qkv2Ideal Cert.Qkv2Ideal.Gen
open scoped BigOperators

variable (m : (ℓ : Loc nD τ sig) → Buf (Elt Ideal) ℓ)

/-- The host's broadcast of the row scales over 128 lanes, at an index. -/
theorem lanes_apply (c : Dev nD) (i : S1792x128.Idx) :
    V m c main_v0 i = m ((c : Thread nD τ).loc main_arg1) (ix2 (i 0) 0) := by
  unfold V
  after_reads_at

/-- The host's broadcast of the temperatures over 128 lanes, at an index. -/
theorem temps_apply (c : Dev nD) (i : S1792x128.Idx) :
    V m c main_v1 i = m ((c : Thread nD τ).loc main_arg2) (ix2 (i 0) 0) := by
  unfold V
  after_reads_at

/-- The block of each window at a grid point: the whole of the codes, the scales and the temperatures, and 512 columns of the
    weights, of their scales and of the results. -/
theorem idx_facts : ∀ t : Fin cfg0.N,
    win0_0.index t = ![0, 0] ∧ win0_1.index t = ![0, 0] ∧ win0_2.index t = ![0, 0]
    ∧ win0_3.index t = ![0, t.val] ∧ win0_4.index t = ![0, t.val] :=
  (by decide +kernel : ∀ t : Fin grid0.N, _)
theorem out_facts : ∀ t : Fin cfg0.N,
    win0_5.index t = ![0, (ptQ t).val]
    ∧ win0_6.index t = ![0, (ptK t).val - 10] ∧ win0_7.index t = ![0, (ptV t).val - 12]
    ∧ win0_8.index t = ![0, (ptK t).val - 10] ∧ win0_9.index t = ![(ptK t).val - 10, 0, 0]
    ∧ win0_10.index t = ![0, (ptV t).val - 12] ∧ win0_11.index t = ![(ptV t).val - 12, 0, 0]
    ∧ 10 ≤ (ptK t).val ∧ 12 ≤ (ptV t).val :=
  (by decide +kernel : ∀ t : Fin grid0.N, _)

/-- The codes, the row scales, the temperatures, the weights and their scales, as launched. -/
def aC (c : Dev nD) : S1792x5120.Idx → EReal := m ((c : Thread nD τ).loc main_arg0)
def aS (c : Dev nD) : S1792x1.Idx → EReal := m ((c : Thread nD τ).loc main_arg1)
def aT (c : Dev nD) : S1792x1.Idx → EReal := m ((c : Thread nD τ).loc main_arg2)
def aW (c : Dev nD) : S5120x7168.Idx → EReal := m ((c : Thread nD τ).loc main_arg3)
def aWs (c : Dev nD) : S1x7168.Idx → EReal := m ((c : Thread nD τ).loc main_arg4)

/-- Head `g` of grid point `t` is 128 columns of the whole projection. -/
theorem hd_eq (c : Dev nD) (t : Fin cfg0.N) (q : Fin 1792) (g : Fin 4) (b : Fin 128) (r : Fin 1792) (n : Fin 7168)
    (hr : r.val = q.val) (hn : n.val = t.val * 512 + (g.val * 128 + b.val)) :
    hd (iblk m c 0 t) (iblk m c 1 t) (iblk m c 3 t) (iblk m c 4 t) q g b = P (aC m c) (aS m c) (aW m c) (aWs m c) r n := by
  obtain ⟨e0, e1, e2, e3, e4⟩ := idx_facts t
  obtain rfl : r = q := Fin.ext hr
  unfold hd P aC aS aW aWs
  blk_simp [iblk]
  rw [V_main_arg0, V_main_arg3, V_main_arg4, lanes_apply]
  refine congrArg₂ (· * ·) (congrArg₂ (· * ·)
    (Finset.sum_congr rfl fun k _ => congrArg₂ (· * ·) (congrArg _ ?_) (congrArg _ ?_)) (congrArg _ ?_)) (congrArg _ ?_)
  all_goals blk_ext [e0, e1, e3, e4, col, hn]

/-- The temperature of a row. -/
theorem temp_eq (c : Dev nD) (t : Fin cfg0.N) (q : Fin 1792) (b : Fin 128) (r : Fin 1792) (hr : r.val = q.val) :
    (iblk m c 2 t : S1792x128.Idx → EReal) (ix2 q b) = aT m c (ix2 r 0) := by
  obtain ⟨e0, e1, e2, e3, e4⟩ := idx_facts t
  obtain rfl : r = q := Fin.ext hr
  unfold aT
  blk_simp [iblk]
  rw [temps_apply]
  refine congrArg _ ?_
  blk_ext [e2]

/-- The kernel's queries. -/
theorem kernel_eq5 (c : Dev nD) : (dats m 0 c).arrAt 5 cfg0.N = Y5 (aC m c) (aS m c) (aT m c) (aW m c) (aWs m c) := by
  refine (dats m 0 c).arrAt_eq_of_covers 5 _ (by decide +kernel) fun t hf y => ?_
  obtain ⟨f5, f6, f7, f8, f9, f10, f11, hk, hv⟩ := out_facts t
  blk_simp
  rw [after0_5]
  unfold outQ Y5
  rw [q_apply]
  unfold qVal
  have h0 : win0_5.index t (0 : Fin 2) = 0 := congrFun f5 0
  have h1 : win0_5.index t (1 : Fin 2) = (ptQ t).val := congrFun f5 1
  have hr : win0_5.index t (0 : Fin 2) * 1792 + 1 * (y 0).val = (y 0).val := by omega
  refine congrArg₂ (· * ·) (hd_eq m c _ _ _ _ _ _ hr ?_) (temp_eq m c _ _ _ _ hr)
  show win0_5.index t (1 : Fin 2) * 512 + 1 * (y 1).val = (ptQ t).val * 512 + ((y 1).val / 128 * 128 + (y 1).val % 128)
  omega

/-- The kernel's keys. -/
theorem kernel_eq6 (c : Dev nD) : (dats m 0 c).arrAt 6 cfg0.N = YP (aC m c) (aS m c) (aW m c) (aWs m c) 5120 hk := by
  refine (dats m 0 c).arrAt_eq_of_covers 6 _ (by decide +kernel) fun t hf y => ?_
  obtain ⟨f5, f6, f7, f8, f9, f10, f11, lk, lv⟩ := out_facts t
  blk_simp
  rw [after0_6]
  unfold outKV YP
  rw [kv_apply]
  unfold kvVal
  have h0 : win0_6.index t (0 : Fin 2) = 0 := congrFun f6 0
  have h1 : win0_6.index t (1 : Fin 2) = (ptK t).val - 10 := congrFun f6 1
  have hr : win0_6.index t (0 : Fin 2) * 1792 + 1 * (y 0).val = (y 0).val := by omega
  refine hd_eq m c _ _ _ _ _ _ hr ?_
  show 5120 + (win0_6.index t (1 : Fin 2) * 512 + 1 * (y 1).val) = (ptK t).val * 512 + ((y 1).val / 128 * 128 + (y 1).val % 128)
  omega

/-- The kernel's values. -/
theorem kernel_eq7 (c : Dev nD) : (dats m 0 c).arrAt 7 cfg0.N = YP (aC m c) (aS m c) (aW m c) (aWs m c) 6144 hv := by
  refine (dats m 0 c).arrAt_eq_of_covers 7 _ (by decide +kernel) fun t hf y => ?_
  obtain ⟨f5, f6, f7, f8, f9, f10, f11, lk, lv⟩ := out_facts t
  blk_simp
  rw [after0_7]
  unfold outKV YP
  rw [kv_apply]
  unfold kvVal
  have h0 : win0_7.index t (0 : Fin 2) = 0 := congrFun f7 0
  have h1 : win0_7.index t (1 : Fin 2) = (ptV t).val - 12 := congrFun f7 1
  have hr : win0_7.index t (0 : Fin 2) * 1792 + 1 * (y 0).val = (y 0).val := by omega
  refine hd_eq m c _ _ _ _ _ _ hr ?_
  show 6144 + (win0_7.index t (1 : Fin 2) * 512 + 1 * (y 1).val) = (ptV t).val * 512 + ((y 1).val / 128 * 128 + (y 1).val % 128)
  omega

/-- The kernel's codes of the keys. -/
theorem kernel_eq8 (c : Dev nD) : (dats m 0 c).arrAt 8 cfg0.N = YC (aC m c) (aS m c) (aW m c) (aWs m c) 5120 hk := by
  refine (dats m 0 c).arrAt_eq_of_covers 8 _ (by decide +kernel) fun t hf y => ?_
  obtain ⟨f5, f6, f7, f8, f9, f10, f11, lk, lv⟩ := out_facts t
  blk_simp
  rw [after0_8]
  unfold outC YC
  rw [code_apply]
  unfold codeVal
  have h0 : win0_8.index t (0 : Fin 2) = 0 := congrFun f8 0
  have h1 : win0_8.index t (1 : Fin 2) = (ptK t).val - 10 := congrFun f8 1
  have hr : win0_8.index t (0 : Fin 2) * 1792 + 1 * (y 0).val = (y 0).val := by omega
  refine congrArg₂ Row.code (funext fun b => hd_eq m c _ _ _ _ _ _ hr ?_) (Fin.ext ?_)
  · show 5120 + ((win0_8.index t (1 : Fin 2) * 512 + 1 * (y 1).val) / 128 * 128 + b.val) = (ptK t).val * 512 + ((y 1).val / 128 * 128 + b.val)
    omega
  · show (y 1).val % 128 = (win0_8.index t (1 : Fin 2) * 512 + 1 * (y 1).val) % 128
    omega

/-- The kernel's codes of the values. -/
theorem kernel_eq10 (c : Dev nD) : (dats m 0 c).arrAt 10 cfg0.N = YC (aC m c) (aS m c) (aW m c) (aWs m c) 6144 hv := by
  refine (dats m 0 c).arrAt_eq_of_covers 10 _ (by decide +kernel) fun t hf y => ?_
  obtain ⟨f5, f6, f7, f8, f9, f10, f11, lk, lv⟩ := out_facts t
  blk_simp
  rw [after0_10]
  unfold outC YC
  rw [code_apply]
  unfold codeVal
  have h0 : win0_10.index t (0 : Fin 2) = 0 := congrFun f10 0
  have h1 : win0_10.index t (1 : Fin 2) = (ptV t).val - 12 := congrFun f10 1
  have hr : win0_10.index t (0 : Fin 2) * 1792 + 1 * (y 0).val = (y 0).val := by omega
  refine congrArg₂ Row.code (funext fun b => hd_eq m c _ _ _ _ _ _ hr ?_) (Fin.ext ?_)
  · show 6144 + ((win0_10.index t (1 : Fin 2) * 512 + 1 * (y 1).val) / 128 * 128 + b.val) = (ptV t).val * 512 + ((y 1).val / 128 * 128 + b.val)
    omega
  · show (y 1).val % 128 = (win0_10.index t (1 : Fin 2) * 512 + 1 * (y 1).val) % 128
    omega

/-- The kernel's scales of the keys. -/
theorem kernel_eq9 (c : Dev nD) : (dats m 0 c).arrAt 9 cfg0.N = YS (aC m c) (aS m c) (aW m c) (aWs m c) 5120 hk := by
  refine (dats m 0 c).arrAt_eq_of_covers 9 _ (by decide +kernel) fun t hf y => ?_
  obtain ⟨f5, f6, f7, f8, f9, f10, f11, lk, lv⟩ := out_facts t
  blk_simp
  rw [after0_9]
  unfold outS YS
  rw [scale_apply]
  unfold scaleVal
  have h0 : win0_9.index t (0 : Fin 3) = (ptK t).val - 10 := congrFun f9 0
  have h1 : win0_9.index t (1 : Fin 3) = 0 := congrFun f9 1
  have h2 : win0_9.index t (2 : Fin 3) = 0 := congrFun f9 2
  have hy : (y 0).val < 1 := (y 0).isLt
  have hr : win0_9.index t (1 : Fin 3) * 1792 + 1 * (y 1).val = (y 1).val := by omega
  refine congrArg Row.scale (funext fun b => hd_eq m c _ _ _ _ _ _ hr ?_)
  show 5120 + (((win0_9.index t (0 : Fin 3) * 1 + 1 * (y 0).val) * 4 + (win0_9.index t (2 : Fin 3) * 4 + 1 * (y 2).val)) * 128 + b.val)
    = (ptK t).val * 512 + ((y 2).val * 128 + b.val)
  omega

/-- The kernel's scales of the values. -/
theorem kernel_eq11 (c : Dev nD) : (dats m 0 c).arrAt 11 cfg0.N = YS (aC m c) (aS m c) (aW m c) (aWs m c) 6144 hv := by
  refine (dats m 0 c).arrAt_eq_of_covers 11 _ (by decide +kernel) fun t hf y => ?_
  obtain ⟨f5, f6, f7, f8, f9, f10, f11, lk, lv⟩ := out_facts t
  blk_simp
  rw [after0_11]
  unfold outS YS
  rw [scale_apply]
  unfold scaleVal
  have h0 : win0_11.index t (0 : Fin 3) = (ptV t).val - 12 := congrFun f11 0
  have h1 : win0_11.index t (1 : Fin 3) = 0 := congrFun f11 1
  have h2 : win0_11.index t (2 : Fin 3) = 0 := congrFun f11 2
  have hy : (y 0).val < 1 := (y 0).isLt
  have hr : win0_11.index t (1 : Fin 3) * 1792 + 1 * (y 1).val = (y 1).val := by omega
  refine congrArg Row.scale (funext fun b => hd_eq m c _ _ _ _ _ _ hr ?_)
  show 6144 + (((win0_11.index t (0 : Fin 3) * 1 + 1 * (y 0).val) * 4 + (win0_11.index t (2 : Fin 3) * 4 + 1 * (y 2).val)) * 128 + b.val)
    = (ptV t).val * 512 + ((y 2).val * 128 + b.val)
  omega

end Cert.Qkv2Eq

end
-- ==== Proof.Qkv2.Claim.lean ====
module

public import proofs.«01_k».proof.Defs
public import proofs.«01_k».proof.Proof.Qkv2.Bits.Frame
public import proofs.«01_k».proof.Proof.Qkv2.Array

@[expose] public section

/-! The equation of the second fused projection with its reference. -/

noncomputable section

namespace Cert.Qkv2Eq

open Idealize.ShloMosaic Idealize.ShloMosaic.TcCoe Idealize.SL.Sem

instance : Cert.Qkv2.Facts := Cert.Qkv2.Gen.facts
instance : Cert.Qkv2Ideal.Facts := Cert.Qkv2Ideal.Gen.facts
instance : Cert.Qkv2RefIdeal.Facts := Cert.Qkv2RefIdeal.Gen.facts

/-- The second fused projection and the reference, run over the extended reals, end with equal queries, keys, values, codes
    and scales. -/
theorem algebraic : algebraic_Qkv2Ideal_Qkv2RefIdeal := by
  intro m g m' g' _ hm
  refine ⟨fun c => Y5 (aC m c) (aS m c) (aT m c) (aW m c) (aWs m c),
    fun c => YP (aC m c) (aS m c) (aW m c) (aWs m c) 5120 hk, fun c => YP (aC m c) (aS m c) (aW m c) (aWs m c) 6144 hv,
    fun c => YC (aC m c) (aS m c) (aW m c) (aWs m c) 5120 hk, fun c => YS (aC m c) (aS m c) (aW m c) (aWs m c) 5120 hk,
    fun c => YC (aC m c) (aS m c) (aW m c) (aWs m c) 6144 hv, fun c => YS (aC m c) (aS m c) (aW m c) (aWs m c) 6144 hv, ?_, ?_⟩
  · refine (θ_run _ _ _).mono (fun r h c => ?_) (Qkv2Ideal.Gen.run_blocks (F := Ideal) m g)
    obtain ⟨h5, h6, h7, h8, h9, h10, h11, h⟩ := h c
    exact ⟨h5.trans (kernel_eq5 m c), h6.trans (kernel_eq6 m c), h7.trans (kernel_eq7 m c), h8.trans (kernel_eq8 m c),
      h9.trans (kernel_eq9 m c), h10.trans (kernel_eq10 m c), h11.trans (kernel_eq11 m c), h⟩
  · refine (θ_run _ _ _).mono (fun r h c => ?_) (Qkv2RefIdeal.Value.run (F := Ideal) m' g')
    obtain ⟨h5, h6, h7, h8, h9, h10, h11, h⟩ := h c
    obtain ⟨a0, a1, a2, a3, a4⟩ := hm c
    have b0 : m' ((c.tc : Thread Qkv2RefIdeal.nD Qkv2RefIdeal.τ).loc Qkv2RefIdeal.main_arg0) = aC m c := a0
    have b1 : m' ((c.tc : Thread Qkv2RefIdeal.nD Qkv2RefIdeal.τ).loc Qkv2RefIdeal.main_arg1) = aS m c := a1
    have b2 : m' ((c.tc : Thread Qkv2RefIdeal.nD Qkv2RefIdeal.τ).loc Qkv2RefIdeal.main_arg2) = aT m c := a2
    have b3 : m' ((c.tc : Thread Qkv2RefIdeal.nD Qkv2RefIdeal.τ).loc Qkv2RefIdeal.main_arg3) = aW m c := a3
    have b4 : m' ((c.tc : Thread Qkv2RefIdeal.nD Qkv2RefIdeal.τ).loc Qkv2RefIdeal.main_arg4) = aWs m c := a4
    refine ⟨h5.trans ?_, h6.trans ?_, h7.trans ?_, h8.trans ?_, h9.trans ?_, h10.trans ?_, h11.trans ?_, h⟩
    · rw [ref_eq5]; exact congr (congr (congr (congr (congrArg Y5 b0) b1) b2) b3) b4
    · rw [ref_eq6]; exact congrArg (fun Y => Y 5120 hk) (congr (congr (congr (congrArg YP b0) b1) b3) b4)
    · rw [ref_eq7]; exact congrArg (fun Y => Y 6144 hv) (congr (congr (congr (congrArg YP b0) b1) b3) b4)
    · rw [ref_eq8]; exact congrArg (fun Y => Y 5120 hk) (congr (congr (congr (congrArg YC b0) b1) b3) b4)
    · rw [ref_eq9]; exact congrArg (fun Y => Y 5120 hk) (congr (congr (congr (congrArg YS b0) b1) b3) b4)
    · rw [ref_eq10]; exact congrArg (fun Y => Y 6144 hv) (congr (congr (congr (congrArg YC b0) b1) b3) b4)
    · rw [ref_eq11]; exact congrArg (fun Y => Y 6144 hv) (congr (congr (congr (congrArg YS b0) b1) b3) b4)

end Cert.Qkv2Eq

end
-- ==== Proof.Out1.Block.lean ====
module

public import proofs.«01_k».proof.Proof.Gen.Out1Ideal.Frame
public import proofs.«01_k».proof.Proof.Row.Defs
public import Idealize.ShloMosaic.Lib.Pipeline.ValueKit.Geometry
public import Idealize.ShloMosaic.Lib.Pipeline.ValueKit.Acc

@[expose] public section

/-! What one grid point of the first output projection computes: the ten column chunks of the projection with its residual,
and the running sum of their squares. -/

set_option maxRecDepth 16384

noncomputable section

namespace Cert.Out1Eq

open Idealize.ShloMosaic Cert.Out1Ideal Cert.Out1Ideal.Gen
open scoped BigOperators

/-- Entry `(r, n)` of a block of the projection with its residual. -/
def H (x0 : Vec Ideal S256x5120 .fp8e4m3) (x1 : Vec Ideal S256x128 .f32) (x2 : Vec Ideal S256x5120 .bf16)
    (x3 : Vec Ideal S5120x5120 .fp8e4m3) (x4 : Vec Ideal S1x5120 .f32)
    (r : Fin 256) (n : Fin 5120) : EReal :=
  x2 (ix2 r n) + (∑ k : Fin 5120, x0 (ix2 r k) * x3 (ix2 k n)) * x1 (ix2 r 0) * x4 (ix2 0 n)

/-- Column chunk 0 of the block. -/
def h0 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay6 (View.ld x2 (Rect.unit (s := S256x5120) ![0, 0] S256x512.size inb_S256x5120_S256x512_0_0)) x0 (View.ld x3 (Rect.unit (s := S5120x5120) ![0, 0] S5120x512.size inb_S5120x5120_S5120x512_0_0)) (View.ld x1 (Rect.unit (s := S256x128) ![0, 0] S256x1.size inb_S256x128_S256x1_0_0)) (View.ld x4 (Rect.unit (s := S1x5120) ![0, 0] S1x512.size inb_S1x5120_S1x512_0_0))

theorem h0_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h0 x0 x1 x2 x3 x4 (ix2 r k) = H x0 x1 x2 x3 x4 r ⟨0 + k.val, by have := k.isLt; omega⟩ := by
  unfold h0 H
  unfold_payloads
  pointwise [dot_S256x5120_S5120x512_S256x512_1_0_0_1_n_n]

/-- Column chunk 1 of the block. -/
def h1 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay8 (View.ld x2 (Rect.unit (s := S256x5120) ![0, 512] S256x512.size inb_S256x5120_S256x512_0_512)) x0 (View.ld x3 (Rect.unit (s := S5120x5120) ![0, 512] S5120x512.size inb_S5120x5120_S5120x512_0_512)) (View.ld x1 (Rect.unit (s := S256x128) ![0, 0] S256x1.size inb_S256x128_S256x1_0_0)) (View.ld x4 (Rect.unit (s := S1x5120) ![0, 512] S1x512.size inb_S1x5120_S1x512_0_512))

theorem h1_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h1 x0 x1 x2 x3 x4 (ix2 r k) = H x0 x1 x2 x3 x4 r ⟨512 + k.val, by have := k.isLt; omega⟩ := by
  unfold h1 H
  unfold_payloads
  pointwise [dot_S256x5120_S5120x512_S256x512_1_0_0_1_n_n]

/-- Column chunk 2 of the block. -/
def h2 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay9 (View.ld x2 (Rect.unit (s := S256x5120) ![0, 1024] S256x512.size inb_S256x5120_S256x512_0_1024)) x0 (View.ld x3 (Rect.unit (s := S5120x5120) ![0, 1024] S5120x512.size inb_S5120x5120_S5120x512_0_1024)) (View.ld x1 (Rect.unit (s := S256x128) ![0, 0] S256x1.size inb_S256x128_S256x1_0_0)) (View.ld x4 (Rect.unit (s := S1x5120) ![0, 1024] S1x512.size inb_S1x5120_S1x512_0_1024))

theorem h2_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h2 x0 x1 x2 x3 x4 (ix2 r k) = H x0 x1 x2 x3 x4 r ⟨1024 + k.val, by have := k.isLt; omega⟩ := by
  unfold h2 H
  unfold_payloads
  pointwise [dot_S256x5120_S5120x512_S256x512_1_0_0_1_n_n]

/-- Column chunk 3 of the block. -/
def h3 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay13 (k0_pay11 (View.ld x2 (Rect.unit (s := S256x5120) ![0, 1536] S256x512.size inb_S256x5120_S256x512_0_1536))) (k0_pay12 x0 (View.ld x3 (Rect.unit (s := S5120x5120) ![0, 1536] S5120x512.size inb_S5120x5120_S5120x512_0_1536)) (View.ld x1 (Rect.unit (s := S256x128) ![0, 0] S256x1.size inb_S256x128_S256x1_0_0))) (View.ld x4 (Rect.unit (s := S1x5120) ![0, 1536] S1x512.size inb_S1x5120_S1x512_0_1536))

theorem h3_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h3 x0 x1 x2 x3 x4 (ix2 r k) = H x0 x1 x2 x3 x4 r ⟨1536 + k.val, by have := k.isLt; omega⟩ := by
  unfold h3 H
  unfold_payloads
  pointwise [dot_S256x5120_S5120x512_S256x512_1_0_0_1_n_n]

/-- Column chunk 4 of the block. -/
def h4 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay14 (View.ld x2 (Rect.unit (s := S256x5120) ![0, 2048] S256x512.size inb_S256x5120_S256x512_0_2048)) x0 (View.ld x3 (Rect.unit (s := S5120x5120) ![0, 2048] S5120x512.size inb_S5120x5120_S5120x512_0_2048)) (View.ld x1 (Rect.unit (s := S256x128) ![0, 0] S256x1.size inb_S256x128_S256x1_0_0)) (View.ld x4 (Rect.unit (s := S1x5120) ![0, 2048] S1x512.size inb_S1x5120_S1x512_0_2048))

theorem h4_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h4 x0 x1 x2 x3 x4 (ix2 r k) = H x0 x1 x2 x3 x4 r ⟨2048 + k.val, by have := k.isLt; omega⟩ := by
  unfold h4 H
  unfold_payloads
  pointwise [dot_S256x5120_S5120x512_S256x512_1_0_0_1_n_n]

/-- Column chunk 5 of the block. -/
def h5 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay18 (k0_pay16 (View.ld x2 (Rect.unit (s := S256x5120) ![0, 2560] S256x512.size inb_S256x5120_S256x512_0_2560))) (k0_pay17 x0 (View.ld x3 (Rect.unit (s := S5120x5120) ![0, 2560] S5120x512.size inb_S5120x5120_S5120x512_0_2560))) (View.ld x1 (Rect.unit (s := S256x128) ![0, 0] S256x1.size inb_S256x128_S256x1_0_0)) (View.ld x4 (Rect.unit (s := S1x5120) ![0, 2560] S1x512.size inb_S1x5120_S1x512_0_2560))

theorem h5_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h5 x0 x1 x2 x3 x4 (ix2 r k) = H x0 x1 x2 x3 x4 r ⟨2560 + k.val, by have := k.isLt; omega⟩ := by
  unfold h5 H
  unfold_payloads
  pointwise [dot_S256x5120_S5120x512_S256x512_1_0_0_1_n_n]

/-- Column chunk 6 of the block. -/
def h6 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay19 (View.ld x2 (Rect.unit (s := S256x5120) ![0, 3072] S256x512.size inb_S256x5120_S256x512_0_3072)) x0 (View.ld x3 (Rect.unit (s := S5120x5120) ![0, 3072] S5120x512.size inb_S5120x5120_S5120x512_0_3072)) (View.ld x1 (Rect.unit (s := S256x128) ![0, 0] S256x1.size inb_S256x128_S256x1_0_0)) (View.ld x4 (Rect.unit (s := S1x5120) ![0, 3072] S1x512.size inb_S1x5120_S1x512_0_3072))

theorem h6_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h6 x0 x1 x2 x3 x4 (ix2 r k) = H x0 x1 x2 x3 x4 r ⟨3072 + k.val, by have := k.isLt; omega⟩ := by
  unfold h6 H
  unfold_payloads
  pointwise [dot_S256x5120_S5120x512_S256x512_1_0_0_1_n_n]

/-- Column chunk 7 of the block. -/
def h7 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay22 (k0_pay21 (View.ld x2 (Rect.unit (s := S256x5120) ![0, 3584] S256x512.size inb_S256x5120_S256x512_0_3584))) x0 (View.ld x3 (Rect.unit (s := S5120x5120) ![0, 3584] S5120x512.size inb_S5120x5120_S5120x512_0_3584)) (View.ld x1 (Rect.unit (s := S256x128) ![0, 0] S256x1.size inb_S256x128_S256x1_0_0)) (View.ld x4 (Rect.unit (s := S1x5120) ![0, 3584] S1x512.size inb_S1x5120_S1x512_0_3584))

theorem h7_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h7 x0 x1 x2 x3 x4 (ix2 r k) = H x0 x1 x2 x3 x4 r ⟨3584 + k.val, by have := k.isLt; omega⟩ := by
  unfold h7 H
  unfold_payloads
  pointwise [dot_S256x5120_S5120x512_S256x512_1_0_0_1_n_n]

/-- Column chunk 8 of the block. -/
def h8 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay23 (View.ld x2 (Rect.unit (s := S256x5120) ![0, 4096] S256x512.size inb_S256x5120_S256x512_0_4096)) x0 (View.ld x3 (Rect.unit (s := S5120x5120) ![0, 4096] S5120x512.size inb_S5120x5120_S5120x512_0_4096)) (View.ld x1 (Rect.unit (s := S256x128) ![0, 0] S256x1.size inb_S256x128_S256x1_0_0)) (View.ld x4 (Rect.unit (s := S1x5120) ![0, 4096] S1x512.size inb_S1x5120_S1x512_0_4096))

theorem h8_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h8 x0 x1 x2 x3 x4 (ix2 r k) = H x0 x1 x2 x3 x4 r ⟨4096 + k.val, by have := k.isLt; omega⟩ := by
  unfold h8 H
  unfold_payloads
  pointwise [dot_S256x5120_S5120x512_S256x512_1_0_0_1_n_n]

/-- Column chunk 9 of the block. -/
def h9 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : Vec Ideal S256x512 .f32 :=
  k0_pay25 (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608))

theorem h9_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 512) :
    h9 x0 x1 x2 x3 x4 (ix2 r k) = H x0 x1 x2 x3 x4 r ⟨4608 + k.val, by have := k.isLt; omega⟩ := by
  unfold h9 H
  unfold_payloads
  pointwise [dot_S256x5120_S5120x512_S256x512_1_0_0_1_n_n]

/-- A sum over 5120 columns, chunk by chunk. -/
theorem sum_ten (f : Fin 5120 → EReal) :
    ∑ k, f k = (((((((((0 + ∑ t : Fin 512, f ⟨0 + t.val, by have := t.isLt; omega⟩) + ∑ t : Fin 512, f ⟨512 + t.val, by have := t.isLt; omega⟩) + ∑ t : Fin 512, f ⟨1024 + t.val, by have := t.isLt; omega⟩) + ∑ t : Fin 512, f ⟨1536 + t.val, by have := t.isLt; omega⟩) + ∑ t : Fin 512, f ⟨2048 + t.val, by have := t.isLt; omega⟩) + ∑ t : Fin 512, f ⟨2560 + t.val, by have := t.isLt; omega⟩) + ∑ t : Fin 512, f ⟨3072 + t.val, by have := t.isLt; omega⟩) + ∑ t : Fin 512, f ⟨3584 + t.val, by have := t.isLt; omega⟩) + ∑ t : Fin 512, f ⟨4096 + t.val, by have := t.isLt; omega⟩) + ∑ t : Fin 512, f ⟨4608 + t.val, by have := t.isLt; omega⟩ := by
  have h : ∀ g : Fin 10 → EReal, ∑ j, g j = 0 + g 0 + g 1 + g 2 + g 3 + g 4 + g 5 + g 6 + g 7 + g 8 + g 9 := fun g => by
    simp only [Fin.sum_univ_castSucc, Fin.sum_univ_zero]
    rfl
  exact (Fin.sum_univ_tiles 10 512 rfl f).trans (h _)

/-- The ten stores of the block, last first. -/
def pieces (x0 : Vec Ideal S256x5120 .fp8e4m3) (x1 : Vec Ideal S256x128 .f32) (x2 : Vec Ideal S256x5120 .bf16)
    (x3 : Vec Ideal S5120x5120 .fp8e4m3) (x4 : Vec Ideal S1x5120 .f32) : List (View.Piece (Elt Ideal) S256x5120 .f32) :=
  [⟨Rect.unit (s := S256x5120) ![0, 4608] S256x512.size inb_S256x5120_S256x512_0_4608, h9 x0 x1 x2 x3 x4⟩,
    ⟨Rect.unit (s := S256x5120) ![0, 4096] S256x512.size inb_S256x5120_S256x512_0_4096, h8 x0 x1 x2 x3 x4⟩,
    ⟨Rect.unit (s := S256x5120) ![0, 3584] S256x512.size inb_S256x5120_S256x512_0_3584, h7 x0 x1 x2 x3 x4⟩,
    ⟨Rect.unit (s := S256x5120) ![0, 3072] S256x512.size inb_S256x5120_S256x512_0_3072, h6 x0 x1 x2 x3 x4⟩,
    ⟨Rect.unit (s := S256x5120) ![0, 2560] S256x512.size inb_S256x5120_S256x512_0_2560, h5 x0 x1 x2 x3 x4⟩,
    ⟨Rect.unit (s := S256x5120) ![0, 2048] S256x512.size inb_S256x5120_S256x512_0_2048, h4 x0 x1 x2 x3 x4⟩,
    ⟨Rect.unit (s := S256x5120) ![0, 1536] S256x512.size inb_S256x5120_S256x512_0_1536, h3 x0 x1 x2 x3 x4⟩,
    ⟨Rect.unit (s := S256x5120) ![0, 1024] S256x512.size inb_S256x5120_S256x512_0_1024, h2 x0 x1 x2 x3 x4⟩,
    ⟨Rect.unit (s := S256x5120) ![0, 512] S256x512.size inb_S256x5120_S256x512_0_512, h1 x0 x1 x2 x3 x4⟩,
    ⟨Rect.unit (s := S256x5120) ![0, 0] S256x512.size inb_S256x5120_S256x512_0_0, h0 x0 x1 x2 x3 x4⟩]

/-- Where a chunk at column offset `o` lies in the block. -/
theorem emb_eq (o : Nat) (h : ∀ a, (![0, o] : Fin 2 → Nat) a + S256x512.size a ≤ S256x5120.size a) (x : S256x512.Idx) :
    (Rect.unit (s := S256x5120) ![0, o] S256x512.size h).emb x
      = ix2 (x 0) ⟨o + (x 1).val, by have := h 1; have := (x 1).isLt; simp [Matrix.cons_val_one] at *; omega⟩ := by
  funext a; apply Fin.ext
  match a with
  | ⟨0, _⟩ => show 0 + 1 * (x 0).val = (x 0).val; omega
  | ⟨1, _⟩ => show o + 1 * (x 1).val = o + (x 1).val; omega

/-- The stores tile the block. -/
theorem pieces_cover (x0 : Vec Ideal S256x5120 .fp8e4m3) (x1 : Vec Ideal S256x128 .f32) (x2 : Vec Ideal S256x5120 .bf16)
    (x3 : Vec Ideal S5120x5120 .fp8e4m3) (x4 : Vec Ideal S1x5120 .f32) (y : S256x5120.Idx) :
    ∃ p ∈ pieces x0 x1 x2 x3 x4, y ∈ p.1.set :=
  View.cover_of_tiled (pieces x0 x1 x2 x3 x4) S256x512.size (by rfl) y

/-- The block the ten stores leave. -/
theorem pieces_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (y : S256x5120.Idx) :
    View.canon (pieces x0 x1 x2 x3 x4) y = H x0 x1 x2 x3 x4 (y 0) (y 1) := by
  refine View.canon_apply_of_pieces (Val := Elt Ideal) (fun y : S256x5120.Idx => H x0 x1 x2 x3 x4 (y 0) (y 1)) _ ?_ y (pieces_cover x0 x1 x2 x3 x4 y)
  intro p hp x
  unfold pieces at hp
  simp only [List.mem_cons, List.not_mem_nil, or_false] at hp
  rcases hp with rfl | rfl | rfl | rfl | rfl | rfl | rfl | rfl | rfl | rfl
  · rw [emb_eq]
    exact (congrArg _ (eq_ix2 x)).trans (h9_apply x0 x1 x2 x3 x4 _ _)
  · rw [emb_eq]
    exact (congrArg _ (eq_ix2 x)).trans (h8_apply x0 x1 x2 x3 x4 _ _)
  · rw [emb_eq]
    exact (congrArg _ (eq_ix2 x)).trans (h7_apply x0 x1 x2 x3 x4 _ _)
  · rw [emb_eq]
    exact (congrArg _ (eq_ix2 x)).trans (h6_apply x0 x1 x2 x3 x4 _ _)
  · rw [emb_eq]
    exact (congrArg _ (eq_ix2 x)).trans (h5_apply x0 x1 x2 x3 x4 _ _)
  · rw [emb_eq]
    exact (congrArg _ (eq_ix2 x)).trans (h4_apply x0 x1 x2 x3 x4 _ _)
  · rw [emb_eq]
    exact (congrArg _ (eq_ix2 x)).trans (h3_apply x0 x1 x2 x3 x4 _ _)
  · rw [emb_eq]
    exact (congrArg _ (eq_ix2 x)).trans (h2_apply x0 x1 x2 x3 x4 _ _)
  · rw [emb_eq]
    exact (congrArg _ (eq_ix2 x)).trans (h1_apply x0 x1 x2 x3 x4 _ _)
  · rw [emb_eq]
    exact (congrArg _ (eq_ix2 x)).trans (h0_apply x0 x1 x2 x3 x4 _ _)

/-- The sum of the squares of row `r` of the column chunk at offset `o`. -/
def sq (f : Fin 5120 → EReal) (o : Nat) (h : o + 512 ≤ 5120) : EReal :=
  ∑ t : Fin 512, f ⟨o + t.val, by have := t.isLt; omega⟩ * f ⟨o + t.val, by have := t.isLt; omega⟩

/-- The running sum of squares after 1 chunks. -/
def t1 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : FVec Ideal S256x1 .f32 :=
  k0_pay7 (View.ld x2 (Rect.unit (s := S256x5120) ![0, 0] S256x512.size inb_S256x5120_S256x512_0_0)) x0 (View.ld x3 (Rect.unit (s := S5120x5120) ![0, 0] S5120x512.size inb_S5120x5120_S5120x512_0_0)) (View.ld x1 (Rect.unit (s := S256x128) ![0, 0] S256x1.size inb_S256x128_S256x1_0_0)) (View.ld x4 (Rect.unit (s := S1x5120) ![0, 0] S1x512.size inb_S1x5120_S1x512_0_0))

theorem t1_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t1 x0 x1 x2 x3 x4 (ix2 r 0) = 0 + sq (H x0 x1 x2 x3 x4 r) 0 (by omega) := by
  have e0 := h0_apply x0 x1 x2 x3 x4
  have d0 : h0 x0 x1 x2 x3 x4 = k0_pay6 (View.ld x2 (Rect.unit (s := S256x5120) ![0, 0] S256x512.size inb_S256x5120_S256x512_0_0)) x0 (View.ld x3 (Rect.unit (s := S5120x5120) ![0, 0] S5120x512.size inb_S5120x5120_S5120x512_0_0)) (View.ld x1 (Rect.unit (s := S256x128) ![0, 0] S256x1.size inb_S256x128_S256x1_0_0)) (View.ld x4 (Rect.unit (s := S1x5120) ![0, 0] S1x512.size inb_S1x5120_S1x512_0_0)) := rfl
  unfold t1 k0_pay7 sq
  simp only [← d0]
  pointwise [e0]

/-- The running sum of squares after 3 chunks. -/
def t3 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : FVec Ideal S256x1 .f32 :=
  k0_pay10 (t1 x0 x1 x2 x3 x4) (h1 x0 x1 x2 x3 x4) (View.ld x2 (Rect.unit (s := S256x5120) ![0, 1024] S256x512.size inb_S256x5120_S256x512_0_1024)) x0 (View.ld x3 (Rect.unit (s := S5120x5120) ![0, 1024] S5120x512.size inb_S5120x5120_S5120x512_0_1024)) (View.ld x1 (Rect.unit (s := S256x128) ![0, 0] S256x1.size inb_S256x128_S256x1_0_0)) (View.ld x4 (Rect.unit (s := S1x5120) ![0, 1024] S1x512.size inb_S1x5120_S1x512_0_1024))

theorem t3_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t3 x0 x1 x2 x3 x4 (ix2 r 0) = t1 x0 x1 x2 x3 x4 (ix2 r 0) + sq (H x0 x1 x2 x3 x4 r) 512 (by omega) + sq (H x0 x1 x2 x3 x4 r) 1024 (by omega) := by
  have e1 := h1_apply x0 x1 x2 x3 x4
  have d1 : h1 x0 x1 x2 x3 x4 = k0_pay8 (View.ld x2 (Rect.unit (s := S256x5120) ![0, 512] S256x512.size inb_S256x5120_S256x512_0_512)) x0 (View.ld x3 (Rect.unit (s := S5120x5120) ![0, 512] S5120x512.size inb_S5120x5120_S5120x512_0_512)) (View.ld x1 (Rect.unit (s := S256x128) ![0, 0] S256x1.size inb_S256x128_S256x1_0_0)) (View.ld x4 (Rect.unit (s := S1x5120) ![0, 512] S1x512.size inb_S1x5120_S1x512_0_512)) := rfl
  have e2 := h2_apply x0 x1 x2 x3 x4
  have d2 : h2 x0 x1 x2 x3 x4 = k0_pay9 (View.ld x2 (Rect.unit (s := S256x5120) ![0, 1024] S256x512.size inb_S256x5120_S256x512_0_1024)) x0 (View.ld x3 (Rect.unit (s := S5120x5120) ![0, 1024] S5120x512.size inb_S5120x5120_S5120x512_0_1024)) (View.ld x1 (Rect.unit (s := S256x128) ![0, 0] S256x1.size inb_S256x128_S256x1_0_0)) (View.ld x4 (Rect.unit (s := S1x5120) ![0, 1024] S1x512.size inb_S1x5120_S1x512_0_1024)) := rfl
  unfold t3 k0_pay10 sq
  simp only [← d1, ← d2]
  pointwise [e1, e2]

/-- The running sum of squares after 5 chunks. -/
def t5 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : FVec Ideal S256x1 .f32 :=
  k0_pay15 (t3 x0 x1 x2 x3 x4) (k0_pay11 (View.ld x2 (Rect.unit (s := S256x5120) ![0, 1536] S256x512.size inb_S256x5120_S256x512_0_1536))) (k0_pay12 x0 (View.ld x3 (Rect.unit (s := S5120x5120) ![0, 1536] S5120x512.size inb_S5120x5120_S5120x512_0_1536)) (View.ld x1 (Rect.unit (s := S256x128) ![0, 0] S256x1.size inb_S256x128_S256x1_0_0))) (View.ld x4 (Rect.unit (s := S1x5120) ![0, 1536] S1x512.size inb_S1x5120_S1x512_0_1536)) (View.ld x2 (Rect.unit (s := S256x5120) ![0, 2048] S256x512.size inb_S256x5120_S256x512_0_2048)) x0 (View.ld x3 (Rect.unit (s := S5120x5120) ![0, 2048] S5120x512.size inb_S5120x5120_S5120x512_0_2048)) (View.ld x1 (Rect.unit (s := S256x128) ![0, 0] S256x1.size inb_S256x128_S256x1_0_0)) (View.ld x4 (Rect.unit (s := S1x5120) ![0, 2048] S1x512.size inb_S1x5120_S1x512_0_2048))

theorem t5_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t5 x0 x1 x2 x3 x4 (ix2 r 0) = t3 x0 x1 x2 x3 x4 (ix2 r 0) + sq (H x0 x1 x2 x3 x4 r) 1536 (by omega) + sq (H x0 x1 x2 x3 x4 r) 2048 (by omega) := by
  have e3 := h3_apply x0 x1 x2 x3 x4
  have d3 : h3 x0 x1 x2 x3 x4 = k0_pay13 (k0_pay11 (View.ld x2 (Rect.unit (s := S256x5120) ![0, 1536] S256x512.size inb_S256x5120_S256x512_0_1536))) (k0_pay12 x0 (View.ld x3 (Rect.unit (s := S5120x5120) ![0, 1536] S5120x512.size inb_S5120x5120_S5120x512_0_1536)) (View.ld x1 (Rect.unit (s := S256x128) ![0, 0] S256x1.size inb_S256x128_S256x1_0_0))) (View.ld x4 (Rect.unit (s := S1x5120) ![0, 1536] S1x512.size inb_S1x5120_S1x512_0_1536)) := rfl
  have e4 := h4_apply x0 x1 x2 x3 x4
  have d4 : h4 x0 x1 x2 x3 x4 = k0_pay14 (View.ld x2 (Rect.unit (s := S256x5120) ![0, 2048] S256x512.size inb_S256x5120_S256x512_0_2048)) x0 (View.ld x3 (Rect.unit (s := S5120x5120) ![0, 2048] S5120x512.size inb_S5120x5120_S5120x512_0_2048)) (View.ld x1 (Rect.unit (s := S256x128) ![0, 0] S256x1.size inb_S256x128_S256x1_0_0)) (View.ld x4 (Rect.unit (s := S1x5120) ![0, 2048] S1x512.size inb_S1x5120_S1x512_0_2048)) := rfl
  unfold t5 k0_pay15 sq
  simp only [← d3, ← d4]
  pointwise [e3, e4]

/-- The running sum of squares after 7 chunks. -/
def t7 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : FVec Ideal S256x1 .f32 :=
  k0_pay20 (t5 x0 x1 x2 x3 x4) (k0_pay16 (View.ld x2 (Rect.unit (s := S256x5120) ![0, 2560] S256x512.size inb_S256x5120_S256x512_0_2560))) (k0_pay17 x0 (View.ld x3 (Rect.unit (s := S5120x5120) ![0, 2560] S5120x512.size inb_S5120x5120_S5120x512_0_2560))) (View.ld x1 (Rect.unit (s := S256x128) ![0, 0] S256x1.size inb_S256x128_S256x1_0_0)) (View.ld x4 (Rect.unit (s := S1x5120) ![0, 2560] S1x512.size inb_S1x5120_S1x512_0_2560)) (View.ld x2 (Rect.unit (s := S256x5120) ![0, 3072] S256x512.size inb_S256x5120_S256x512_0_3072)) x0 (View.ld x3 (Rect.unit (s := S5120x5120) ![0, 3072] S5120x512.size inb_S5120x5120_S5120x512_0_3072)) (View.ld x1 (Rect.unit (s := S256x128) ![0, 0] S256x1.size inb_S256x128_S256x1_0_0)) (View.ld x4 (Rect.unit (s := S1x5120) ![0, 3072] S1x512.size inb_S1x5120_S1x512_0_3072))

theorem t7_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t7 x0 x1 x2 x3 x4 (ix2 r 0) = t5 x0 x1 x2 x3 x4 (ix2 r 0) + sq (H x0 x1 x2 x3 x4 r) 2560 (by omega) + sq (H x0 x1 x2 x3 x4 r) 3072 (by omega) := by
  have e5 := h5_apply x0 x1 x2 x3 x4
  have d5 : h5 x0 x1 x2 x3 x4 = k0_pay18 (k0_pay16 (View.ld x2 (Rect.unit (s := S256x5120) ![0, 2560] S256x512.size inb_S256x5120_S256x512_0_2560))) (k0_pay17 x0 (View.ld x3 (Rect.unit (s := S5120x5120) ![0, 2560] S5120x512.size inb_S5120x5120_S5120x512_0_2560))) (View.ld x1 (Rect.unit (s := S256x128) ![0, 0] S256x1.size inb_S256x128_S256x1_0_0)) (View.ld x4 (Rect.unit (s := S1x5120) ![0, 2560] S1x512.size inb_S1x5120_S1x512_0_2560)) := rfl
  have e6 := h6_apply x0 x1 x2 x3 x4
  have d6 : h6 x0 x1 x2 x3 x4 = k0_pay19 (View.ld x2 (Rect.unit (s := S256x5120) ![0, 3072] S256x512.size inb_S256x5120_S256x512_0_3072)) x0 (View.ld x3 (Rect.unit (s := S5120x5120) ![0, 3072] S5120x512.size inb_S5120x5120_S5120x512_0_3072)) (View.ld x1 (Rect.unit (s := S256x128) ![0, 0] S256x1.size inb_S256x128_S256x1_0_0)) (View.ld x4 (Rect.unit (s := S1x5120) ![0, 3072] S1x512.size inb_S1x5120_S1x512_0_3072)) := rfl
  unfold t7 k0_pay20 sq
  simp only [← d5, ← d6]
  pointwise [e5, e6]

/-- The running sum of squares after 9 chunks. -/
def t9 (x0 : Vec Ideal S256x5120 .fp8e4m3) (x1 : Vec Ideal S256x128 .f32) (x2 : Vec Ideal S256x5120 .bf16)
    (x3 : Vec Ideal S5120x5120 .fp8e4m3) (x4 : Vec Ideal S1x5120 .f32) : FVec Ideal S256x1 .f32 :=
  k0_pay24 (t7 x0 x1 x2 x3 x4) (k0_pay21 (View.ld x2 (Rect.unit (s := S256x5120) ![0, 3584] S256x512.size inb_S256x5120_S256x512_0_3584))) x0 (View.ld x3 (Rect.unit (s := S5120x5120) ![0, 3584] S5120x512.size inb_S5120x5120_S5120x512_0_3584)) (View.ld x1 (Rect.unit (s := S256x128) ![0, 0] S256x1.size inb_S256x128_S256x1_0_0)) (View.ld x4 (Rect.unit (s := S1x5120) ![0, 3584] S1x512.size inb_S1x5120_S1x512_0_3584)) (View.ld x2 (Rect.unit (s := S256x5120) ![0, 4096] S256x512.size inb_S256x5120_S256x512_0_4096)) x0 (View.ld x3 (Rect.unit (s := S5120x5120) ![0, 4096] S5120x512.size inb_S5120x5120_S5120x512_0_4096)) (View.ld x1 (Rect.unit (s := S256x128) ![0, 0] S256x1.size inb_S256x128_S256x1_0_0)) (View.ld x4 (Rect.unit (s := S1x5120) ![0, 4096] S1x512.size inb_S1x5120_S1x512_0_4096))

theorem t9_apply (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t9 x0 x1 x2 x3 x4 (ix2 r 0) = t7 x0 x1 x2 x3 x4 (ix2 r 0) + sq (H x0 x1 x2 x3 x4 r) 3584 (by omega) + sq (H x0 x1 x2 x3 x4 r) 4096 (by omega) := by
  have e7 := h7_apply x0 x1 x2 x3 x4
  have d7 : h7 x0 x1 x2 x3 x4 = k0_pay22 (k0_pay21 (View.ld x2 (Rect.unit (s := S256x5120) ![0, 3584] S256x512.size inb_S256x5120_S256x512_0_3584))) x0 (View.ld x3 (Rect.unit (s := S5120x5120) ![0, 3584] S5120x512.size inb_S5120x5120_S5120x512_0_3584)) (View.ld x1 (Rect.unit (s := S256x128) ![0, 0] S256x1.size inb_S256x128_S256x1_0_0)) (View.ld x4 (Rect.unit (s := S1x5120) ![0, 3584] S1x512.size inb_S1x5120_S1x512_0_3584)) := rfl
  have e8 := h8_apply x0 x1 x2 x3 x4
  have d8 : h8 x0 x1 x2 x3 x4 = k0_pay23 (View.ld x2 (Rect.unit (s := S256x5120) ![0, 4096] S256x512.size inb_S256x5120_S256x512_0_4096)) x0 (View.ld x3 (Rect.unit (s := S5120x5120) ![0, 4096] S5120x512.size inb_S5120x5120_S5120x512_0_4096)) (View.ld x1 (Rect.unit (s := S256x128) ![0, 0] S256x1.size inb_S256x128_S256x1_0_0)) (View.ld x4 (Rect.unit (s := S1x5120) ![0, 4096] S1x512.size inb_S1x5120_S1x512_0_4096)) := rfl
  unfold t9 k0_pay24 sq
  simp only [← d7, ← d8]
  pointwise [e7, e8]

end Cert.Out1Eq

end
-- ==== Proof.Out1.After.lean ====
module

public import proofs.«01_k».proof.Proof.Out1.Block

@[expose] public section

/-! What one grid point of the first output projection leaves in its output blocks: the projection with its residual, the
normed rows' codes, and their scales as a column and as rows. -/

set_option maxRecDepth 16384

noncomputable section

namespace Cert.Out1Eq

open Idealize.ShloMosaic Cert.Out1Ideal Cert.Out1Ideal.Gen
open scoped BigOperators

/-- The whole sum of the squares of a row. -/
theorem total (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) :
    t9 x0 x1 x2 x3 x4 (ix2 r 0) + sq (H x0 x1 x2 x3 x4 r) 4608 (by omega) = ∑ k, H x0 x1 x2 x3 x4 r k * H x0 x1 x2 x3 x4 r k := by
  rw [t9_apply, t7_apply, t5_apply, t3_apply, t1_apply, sum_ten]
  unfold sq
  rfl

/-- The named constant is the reciprocal of 5120. -/
theorem inv_d : Named.named (F := Ideal) Out1Ideal.κ "inv_d" (φ := .f32) 0x394CCCCD#32 = ((1 / 5120 : ℝ) : EReal) :=
  IdealRules.named_const.ideal_named_scalar _ _ _ _ rfl

theorem ofBits_5120 : Ideal.ofBits .f32 0x45A00000#32 = ((5120 : ℝ) : EReal) := by
  simp [Ideal.ofBits, Ideal.ieee, -EReal.coe_mul]; norm_num

/-- Multiplying by the named constant is dividing by 5120. -/
theorem mul_inv_d (s : EReal) :
    s * Named.named (F := Ideal) Out1Ideal.κ "inv_d" (φ := .f32) 0x394CCCCD#32 = Ideal.div s (Ideal.ofBits .f32 0x45A00000#32) := by
  rw [inv_d, ofBits_5120, Ideal.div_coe (by norm_num : (5120 : ℝ) ≠ 0)]

/-- Row `r` of the block's normed values. -/
def row (x0 : Vec Ideal S256x5120 .fp8e4m3) (x1 : Vec Ideal S256x128 .f32) (x2 : Vec Ideal S256x5120 .bf16)
    (x3 : Vec Ideal S5120x5120 .fp8e4m3) (x4 : Vec Ideal S1x5120 .f32) (x5 : Vec Ideal S1x5120 .f32) (r : Fin 256) : Fin 5120 → EReal :=
  Row.nrm (H x0 x1 x2 x3 x4 r) (fun k => x5 (ix2 0 k))

section
variable (x0 : Vec Ideal S256x5120 .fp8e4m3) (x1 : Vec Ideal S256x128 .f32) (x2 : Vec Ideal S256x5120 .bf16)
    (x3 : Vec Ideal S5120x5120 .fp8e4m3) (x4 : Vec Ideal S1x5120 .f32) (x5 : Vec Ideal S1x5120 .f32)
    (v : Vec Ideal S256x5120 .f32)
  (hv : ∀ r k, v (ix2 r k) = H x0 x1 x2 x3 x4 r k)
include hv

/-- The block's normed values. -/
theorem pay26_apply (r : Fin 256) (k : Fin 5120) :
    k0_pay26 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5 (ix2 r k)
      = row x0 x1 x2 x3 x4 x5 r k := by
  have e9 := h9_apply x0 x1 x2 x3 x4
  have d9 : h9 x0 x1 x2 x3 x4 = k0_pay25 (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) := rfl
  unfold row Row.nrm
  rw [← total, ← mul_inv_d]
  unfold k0_pay26 sq
  simp only [← d9]
  pointwise [e9, hv]

/-- The largest absolute values of the block's normed rows. -/
theorem pay27_apply (r : Fin 256) :
    k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5 (ix2 r 0) = Row.amax (row x0 x1 x2 x3 x4 x5 r) := by
  have e := pay26_apply x0 x1 x2 x3 x4 x5 v hv
  unfold k0_pay27 Row.amax
  pointwise [e]

/-- The block's scales. -/
theorem pay1_apply (r : Fin 256) :
    k0_pay1 (k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay28 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) k0_pay29 (ix2 r 0) = Row.scale (row x0 x1 x2 x3 x4 x5 r) := by
  unfold k0_pay1 k0_pay28 k0_pay29 Row.scale
  exact (Row.select_scale _ _).trans (congrArg _ (pay27_apply x0 x1 x2 x3 x4 x5 v hv r))

/-- The block's codes. -/
theorem pay2_apply (y : S256x5120.Idx) :
    k0_pay2 (k0_pay26 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay28 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) k0_pay29 y = Row.code (row x0 x1 x2 x3 x4 x5 (y 0)) (y 1) := by
  have e := pay1_apply x0 x1 x2 x3 x4 x5 v hv
  unfold k0_pay2 Row.code
  refine (Row.clip_div _ _ _ _).trans (congrArg₂ _ ?_ ?_)
  · exact (congrArg _ (eq_ix2 y)).trans (pay26_apply x0 x1 x2 x3 x4 x5 v hv _ _)
  · pointwise [e]

/-- The block's scales, as a column spread over the lanes. -/
theorem pay3_apply (y : S256x128.Idx) :
    k0_pay3 (k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay28 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) k0_pay29 y = Row.scale (row x0 x1 x2 x3 x4 x5 (y 0)) := by
  have e := pay1_apply x0 x1 x2 x3 x4 x5 v hv
  unfold k0_pay3
  pointwise [e]

/-- The first 128 of the block's scales, as a row. -/
theorem pay4_apply (y : S1x1x128.Idx) :
    k0_pay4 (k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay28 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) k0_pay29 y
      = Row.scale (row x0 x1 x2 x3 x4 x5 ⟨(y 2).val, by have h : (y 2).val < 128 := (y 2).isLt; omega⟩) := by
  have e := pay1_apply x0 x1 x2 x3 x4 x5 v hv
  unfold k0_pay4
  pointwise [e]

/-- The last 128 of the block's scales, as a row. -/
theorem pay5_apply (y : S1x1x128.Idx) :
    k0_pay5 (k0_pay27 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) (k0_pay28 (t9 x0 x1 x2 x3 x4) (View.ld x2 (Rect.unit (s := S256x5120) ![0, 4608] S256x512.size inb_S256x5120_S256x512_0_4608)) x0 (View.ld x3 (Rect.unit (s := S5120x5120) ![0, 4608] S5120x512.size inb_S5120x5120_S5120x512_0_4608)) (View.ld x1 (Rect.unit (s := S256x128) ![0, 0] S256x1.size inb_S256x128_S256x1_0_0)) (View.ld x4 (Rect.unit (s := S1x5120) ![0, 4608] S1x512.size inb_S1x5120_S1x512_0_4608)) v x5) k0_pay29 y
      = Row.scale (row x0 x1 x2 x3 x4 x5 ⟨128 + (y 2).val, by have h : (y 2).val < 128 := (y 2).isLt; omega⟩) := by
  have e := pay1_apply x0 x1 x2 x3 x4 x5 v hv
  unfold k0_pay5
  pointwise [e]
end

variable (m : (ℓ : Loc nD τ sig) → Buf (Elt Ideal) ℓ)

/-- The projection block that grid point `t` leaves. -/
theorem after6_eq (c : Dev nD) (t : Fin cfg0.N) (y : S256x5120.Idx) :
    (dats m 0 c).after 6 t y = H (iblk m c 0 t) (iblk m c 1 t) (iblk m c 2 t) (iblk m c 3 t) (iblk m c 4 t) (y 0) (y 1) := by
  refine Eq.trans (congrFun ?_ y) (pieces_apply _ _ _ _ _ y)
  rw [after0_6]
  frame_out
  rfl

/-- The projection block read back whole. -/
theorem back (v : View sig .tc .vmem S256x5120 .f32) (x0 : Vec Ideal S256x5120 .fp8e4m3) (x1 : Vec Ideal S256x128 .f32) (x2 : Vec Ideal S256x5120 .bf16)
    (x3 : Vec Ideal S5120x5120 .fp8e4m3) (x4 : Vec Ideal S1x5120 .f32) (r : Fin 256) (k : Fin 5120) :
    v.readCov (pieces x0 x1 x2 x3 x4) (Rect.unit (s := S256x5120) ![0, 0] S256x5120.size inb_S256x5120_S256x5120_0_0).toLoadRect (ix2 r k)
      = H x0 x1 x2 x3 x4 r k := by
  rw [View.readCov_eq_canon']
  refine (pieces_apply x0 x1 x2 x3 x4 _).trans (congrArg₂ _ (Fin.ext ?_) (Fin.ext ?_))
  · show 0 + 1 * r.val = r.val; omega
  · show 0 + 1 * k.val = k.val; omega

/-- The codes that grid point `t` leaves. -/
theorem after7_eq (c : Dev nD) (t : Fin cfg0.N) (y : S256x5120.Idx) :
    (dats m 0 c).after 7 t y = Row.code (row (iblk m c 0 t) (iblk m c 1 t) (iblk m c 2 t) (iblk m c 3 t) (iblk m c 4 t) (iblk m c 5 t) (y 0)) (y 1) := by
  refine Eq.trans (congrFun ?_ y) (pay2_apply _ _ _ _ _ _ _ (back (ms0_6 t).view _ _ _ _ _) y)
  rw [after0_7]
  frame_out
  rfl

/-- The column of scales that grid point `t` leaves. -/
theorem after8_eq (c : Dev nD) (t : Fin cfg0.N) (y : S256x128.Idx) :
    (dats m 0 c).after 8 t y = Row.scale (row (iblk m c 0 t) (iblk m c 1 t) (iblk m c 2 t) (iblk m c 3 t) (iblk m c 4 t) (iblk m c 5 t) (y 0)) := by
  refine Eq.trans (congrFun ?_ y) (pay3_apply _ _ _ _ _ _ _ (back (ms0_6 t).view _ _ _ _ _) y)
  rw [after0_8]
  frame_out
  rfl

/-- The row of the block whose scale entry `y` of the two rows of 128 holds. -/
def at2 (y : S2x1x128.Idx) : Fin 256 :=
  ⟨(y 0).val * 128 + (y 2).val, by
    have h0 : (y 0).val < 2 := (y 0).isLt
    have h2 : (y 2).val < 128 := (y 2).isLt
    omega⟩

/-- The two stores of the rows of scales, the last one first. -/
def rows (a b : Vec Ideal S1x1x128 .f32) : List (View.Piece (Elt Ideal) S2x1x128 .f32) :=
  [⟨Rect.unit (s := S2x1x128) ![1, 0, 0] S1x1x128.size inb_S2x1x128_S1x1x128_1_0_0, b⟩,
    ⟨Rect.unit (s := S2x1x128) ![0, 0, 0] S1x1x128.size inb_S2x1x128_S1x1x128_0_0_0, a⟩]

/-- The two rows of scales, from their two stores. -/
theorem rows_apply (a b : Vec Ideal S1x1x128 .f32) (f : Fin 256 → EReal)
    (ha : ∀ y, a y = f ⟨(y 2).val, by have h : (y 2).val < 128 := (y 2).isLt; omega⟩)
    (hb : ∀ y, b y = f ⟨128 + (y 2).val, by have h : (y 2).val < 128 := (y 2).isLt; omega⟩) (y : S2x1x128.Idx) :
    View.canon (Val := Elt Ideal) (rows a b) y = f (at2 y) := by
  let G : S2x1x128.Idx → Elt Ideal .f32 := fun y => f (at2 y)
  refine View.canon_apply_of_pieces (Val := Elt Ideal) G (rows a b) ?_ y
    (View.cover_of_tiled (rows a b) S1x1x128.size (by rfl) y)
  intro p hp x
  simp only [rows, List.mem_cons, List.not_mem_nil, or_false] at hp
  rcases hp with rfl | rfl
  · refine (hb x).trans (congrArg f (Fin.ext ?_))
    show 128 + (x 2).val = (1 + 1 * (x 0).val) * 128 + (0 + 1 * (x 2).val)
    have : (x 0).val < 1 := (x 0).isLt
    omega
  · refine (ha x).trans (congrArg f (Fin.ext ?_))
    show (x 2).val = (0 + 1 * (x 0).val) * 128 + (0 + 1 * (x 2).val)
    have : (x 0).val < 1 := (x 0).isLt
    omega

/-- The two rows of scales that grid point `t` leaves. -/
theorem after9_eq (c : Dev nD) (t : Fin cfg0.N) (y : S2x1x128.Idx) :
    (dats m 0 c).after 9 t y = Row.scale (row (iblk m c 0 t) (iblk m c 1 t) (iblk m c 2 t) (iblk m c 3 t) (iblk m c 4 t) (iblk m c 5 t) (at2 y)) := by
  refine Eq.trans (congrFun ?_ y) (rows_apply _ _ (fun r => Row.scale (row _ _ _ _ _ _ r))
    (pay4_apply _ _ _ _ _ _ _ (back (ms0_6 t).view _ _ _ _ _)) (pay5_apply _ _ _ _ _ _ _ (back (ms0_6 t).view _ _ _ _ _)) y)
  rw [after0_9]
  frame_out
  rfl

end Cert.Out1Eq

end
-- ==== Proof.Out1.RefRun.lean ====
module

public import proofs.«01_k».proof.Proof.Gen.Out1RefIdeal.Frame
public import Idealize.ShloMosaic.Lib.Pipeline.Value

@[expose] public section

/-! The reference's run, read: its one grid point stages whole arrays, so each result array after the run is the value its
one store puts there, of the argument arrays. -/

noncomputable section

namespace Cert.Out1RefRun

open Cert.Out1RefIdeal Cert.Out1RefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1792x5120.Idx) : ((cfg0.win 0).blk t).view.emb j = j := by
  obtain ⟨e0, e1⟩ := idx_zero0 t
  funext a; apply Fin.ext
  match a with
  | ⟨0, _⟩ => show win0_0.index t (0 : Fin 2) * 1792 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1792x1.Idx) : ((cfg0.win 1).blk t).view.emb j = j := by
  obtain ⟨e0, e1⟩ := idx_zero1 t
  funext a; apply Fin.ext
  match a with
  | ⟨0, _⟩ => show win0_1.index t (0 : Fin 2) * 1792 + 1 * (j 0).val = (j 0).val; omega
  | ⟨1, _⟩ => show win0_1.index t (1 : Fin 2) * 1 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1792x5120.Idx) : ((cfg0.win 2).blk t).view.emb j = j := by
  obtain ⟨e0, e1⟩ := idx_zero2 t
  funext a; apply Fin.ext
  match a with
  | ⟨0, _⟩ => show win0_2.index t (0 : Fin 2) * 1792 + 1 * (j 0).val = (j 0).val; omega
  | ⟨1, _⟩ => show win0_2.index t (1 : Fin 2) * 5120 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S5120x5120.Idx) : ((cfg0.win 3).blk t).view.emb j = j := by
  obtain ⟨e0, e1⟩ := idx_zero3 t
  funext a; apply Fin.ext
  match a with
  | ⟨0, _⟩ => show win0_3.index t (0 : Fin 2) * 5120 + 1 * (j 0).val = (j 0).val; omega
  | ⟨1, _⟩ => show win0_3.index t (1 : Fin 2) * 5120 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x5120.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 5120 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x5120.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1792x5120.Idx) : ((cfg0.win 6).blk t).view.emb j = j := by
  obtain ⟨e0, e1⟩ := idx_zero6 t
  funext a; apply Fin.ext
  match a with
  | ⟨0, _⟩ => show win0_6.index t (0 : Fin 2) * 1792 + 1 * (j 0).val = (j 0).val; omega
  | ⟨1, _⟩ => show win0_6.index t (1 : Fin 2) * 5120 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1792x5120.Idx) : ((cfg0.win 7).blk t).view.emb j = j := by
  obtain ⟨e0, e1⟩ := idx_zero7 t
  funext a; apply Fin.ext
  match a with
  | ⟨0, _⟩ => show win0_7.index t (0 : Fin 2) * 1792 + 1 * (j 0).val = (j 0).val; omega
  | ⟨1, _⟩ => show win0_7.index t (1 : Fin 2) * 5120 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1792x128.Idx) : ((cfg0.win 8).blk t).view.emb j = j := by
  obtain ⟨e0, e1⟩ := idx_zero8 t
  funext a; apply Fin.ext
  match a with
  | ⟨0, _⟩ => show win0_8.index t (0 : Fin 2) * 1792 + 1 * (j 0).val = (j 0).val; omega
  | ⟨1, _⟩ => show win0_8.index t (1 : Fin 2) * 128 + 1 * (j 1).val = (j 1).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S14x1x128.Idx) : ((cfg0.win 9).blk t).view.emb j = j := by
  obtain ⟨e0, e1, e2⟩ := idx_zero9 t
  funext a; apply Fin.ext
  match a with
  | ⟨0, _⟩ => show win0_9.index t (0 : Fin 3) * 14 + 1 * (j 0).val = (j 0).val; omega
  | ⟨1, _⟩ => show win0_9.index t (1 : Fin 3) * 1 + 1 * (j 1).val = (j 1).val; omega
  | ⟨2, _⟩ => show win0_9.index t (2 : Fin 3) * 128 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : Vec F S1792x5120 .f32 :=
  k0_pay4 a2 a0 a3 a1 a4

/-- A load of the whole of a block reads the block, and the one store through the whole rectangle leaves its payload. -/
theorem out6_eq (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : out0_6 (F := F) a0 a1 a2 a3 a4 a5 = G6 a0 a1 a2 a3 a4 a5 := by
  unfold out0_6
  rw [View.canon_unit_zero hz6, View.ld_unit_zero (S := S1792x5120) hz2 _ a2, View.ld_unit_zero (S := S1792x5120) hz0 _ a0, View.ld_unit_zero (S := S5120x5120) hz3 _ a3, View.ld_unit_zero (S := S1792x1) hz1 _ a1, View.ld_unit_zero (S := S1x5120) hz4 _ a4]

/-- Cutting the point's block out of `X` and reading `X` through the block's view give the same. -/
theorem cut6_eq (t : Fin cfg0.N) (X : Vec F S1792x5120 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S1792x5120.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : Vec F S1792x5120 .fp8e4m3 :=
  k0_pay1 (k0_pay7 a2 a0 a3 a1 a4 a5)

/-- A load of the whole of a block reads the block, and the one store through the whole rectangle leaves its payload. -/
theorem out7_eq (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : out0_7 (F := F) a0 a1 a2 a3 a4 a5 = G7 a0 a1 a2 a3 a4 a5 := by
  unfold out0_7
  rw [View.canon_unit_zero hz7, View.ld_unit_zero (S := S1792x5120) hz2 _ a2, View.ld_unit_zero (S := S1792x5120) hz0 _ a0, View.ld_unit_zero (S := S5120x5120) hz3 _ a3, View.ld_unit_zero (S := S1792x1) hz1 _ a1, View.ld_unit_zero (S := S1x5120) hz4 _ a4, View.ld_unit_zero (S := S1x5120) hz5 _ a5]

/-- Cutting the point's block out of `X` and reading `X` through the block's view give the same. -/
theorem cut7_eq (t : Fin cfg0.N) (X : Vec F S1792x5120 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S1792x5120.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : Vec F S1792x128 .f32 :=
  k0_pay2 (k0_pay8 a0 a1 a2 a3 a4 a5)

/-- The one store through the whole rectangle leaves its payload. -/
theorem out8_eq (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S1792x128 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S1792x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : Vec F S14x1x128 .f32 :=
  k0_pay3 (k0_pay8 a0 a1 a2 a3 a4 a5)

/-- The one store through the whole rectangle leaves its payload. -/
theorem out9_eq (a0 : Vec F S1792x5120 .fp8e4m3) (a1 : Vec F S1792x1 .f32) (a2 : Vec F S1792x5120 .bf16) (a3 : Vec F S5120x5120 .fp8e4m3) (a4 : Vec F S1x5120 .f32) (a5 : Vec F S1x5120 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S14x1x128 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S14x1x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.Out1RefRun

end
-- ==== Proof.Out1.Array.lean ====
module

public import proofs.«01_k».proof.Proof.Out1.After
public import proofs.«01_k».proof.Proof.Out1.RefRun
public import Idealize.ShloMosaic.Lib.StableHlo.ReadAt

@[expose] public section

/-! The four result arrays of the first output projection, and the reference's, are the same functions of the arguments. -/

set_option maxRecDepth 16384

noncomputable section

namespace Cert.Out1Eq

open Idealize.ShloMosaic Idealize.ShloMosaic.TcCoe Cert.Out1Ideal Cert.Out1Ideal.Gen
open scoped BigOperators

/-- Entry `(r, n)` of the projection with its residual: `x + (codes · weights) * scales * weight scales`. -/
def P (C : S1792x5120.Idx → EReal) (s : (⟨2, ![1792, 1]⟩ : Shape).Idx → EReal) (X : S1792x5120.Idx → EReal)
    (W : S5120x5120.Idx → EReal) (ws : S1x5120.Idx → EReal) (r : Fin 1792) (n : Fin 5120) : EReal :=
  X (ix2 r n) + (∑ k : Fin 5120, C (ix2 r k) * W (ix2 k n)) * s (ix2 r 0) * ws (ix2 0 n)

/-- Row `r` of the normed projection. -/
def N (C : S1792x5120.Idx → EReal) (s : (⟨2, ![1792, 1]⟩ : Shape).Idx → EReal) (X : S1792x5120.Idx → EReal)
    (W : S5120x5120.Idx → EReal) (ws nw : S1x5120.Idx → EReal) (r : Fin 1792) : Fin 5120 → EReal :=
  Row.nrm (P C s X W ws r) (fun k => nw (ix2 0 k))

/-- The row of the column of 1792 scales that entry `i` of the 14 rows of 128 holds. -/
def at14 (i : S14x1x128.Idx) : Fin 1792 :=
  ⟨(i 0).val * 128 + (i 2).val, by
    have h0 : (i 0).val < 14 := (i 0).isLt
    have h2 : (i 2).val < 128 := (i 2).isLt
    omega⟩

section
variable (C : S1792x5120.Idx → EReal) (s : (⟨2, ![1792, 1]⟩ : Shape).Idx → EReal) (X : S1792x5120.Idx → EReal)
    (W : S5120x5120.Idx → EReal) (ws nw : S1x5120.Idx → EReal)

/-- The projection with its residual. -/
def Y6 : S1792x5120.Idx → EReal := fun i => P C s X W ws (i 0) (i 1)

/-- The codes. -/
def Y7 : S1792x5120.Idx → EReal := fun i => Row.code (N C s X W ws nw (i 0)) (i 1)

/-- The scales as a column, spread over 128 lanes. -/
def Y8 : S1792x128.Idx → EReal := fun i => Row.scale (N C s X W ws nw (i 0))

/-- The scales as 14 rows of 128. -/
def Y9 : S14x1x128.Idx → EReal := fun i => Row.scale (N C s X W ws nw (at14 i))
end

section Reference
variable (C : Vec Ideal S1792x5120 .fp8e4m3) (s : Vec Ideal ⟨2, ![1792, 1]⟩ .f32) (X : Vec Ideal S1792x5120 .bf16)
    (W : Vec Ideal S5120x5120 .fp8e4m3) (ws nw : Vec Ideal S1x5120 .f32)

/-- The reference's projection. -/
theorem ref_P (r : Fin 1792) (n : Fin 5120) : Out1RefIdeal.Gen.k0_pay4 X C W s ws (ix2 r n) = P C s X W ws r n := by
  unfold P
  unfold_payloads
  pointwise [Cert.Out1RefIdeal.dot_S1792x5120_S5120x5120_S1792x5120_1_0_0_1_n_n]

/-- The reference's normed values. -/
theorem ref_N (r : Fin 1792) (k : Fin 5120) : Out1RefIdeal.Gen.k0_pay5 X C W s ws nw (ix2 r k) = N C s X W ws nw r k := by
  unfold Cert.Out1RefIdeal.Gen.k0_pay5 N Row.nrm
  pointwise [ref_P]

/-- The reference's scales. -/
theorem ref_scale (r : Fin 1792) : Out1RefIdeal.Gen.k0_pay6 X C W s ws nw (ix2 r 0) = Row.scale (N C s X W ws nw r) := by
  unfold Cert.Out1RefIdeal.Gen.k0_pay6 Row.scale
  refine (Row.select_scale _ _).trans (congrArg _ ?_)
  unfold Row.amax
  pointwise [ref_N]

/-- The reference's scales, as its result blocks name them. -/
theorem ref_scale' (r : Fin 1792) : Out1RefIdeal.Gen.k0_pay8 C s X W ws nw (ix2 r 0) = Row.scale (N C s X W ws nw r) := by
  have hz := Out1RefRun.hz0
  unfold Cert.Out1RefIdeal.Gen.k0_pay8
  rw [View.ld_unit_zero (S := S1792x5120) hz _ C, View.ld_unit_zero (S := ⟨2, ![1792, 1]⟩) hz _ s,
    View.ld_unit_zero (S := S1792x5120) hz _ X, View.ld_unit_zero (S := S5120x5120) hz _ W,
    View.ld_unit_zero (S := S1x5120) hz _ ws, View.ld_unit_zero (S := S1x5120) hz _ nw]
  exact ref_scale C s X W ws nw r

/-- The reference's first result. -/
theorem ref_eq6 : Out1RefRun.G6 C s X W ws nw = Y6 C s X W ws := by
  funext i
  exact (congrArg _ (eq_ix2 i)).trans (ref_P C s X W ws _ _)

/-- The reference's codes. -/
theorem ref_eq7 : Out1RefRun.G7 C s X W ws nw = Y7 C s X W ws nw := by
  funext i
  unfold Cert.Out1RefRun.G7 Cert.Out1RefIdeal.Gen.k0_pay1 Cert.Out1RefIdeal.Gen.k0_pay7 Y7 Row.code
  refine (Row.clip_div _ _ _ _).trans (congrArg₂ _ ?_ ?_)
  · exact (congrArg _ (eq_ix2 i)).trans (ref_N C s X W ws nw _ _)
  · pointwise [ref_scale]

/-- The reference's column of scales. -/
theorem ref_eq8 : Out1RefRun.G8 C s X W ws nw = Y8 C s X W ws nw := by
  funext i
  unfold Cert.Out1RefRun.G8 Cert.Out1RefIdeal.Gen.k0_pay2 Y8
  pointwise [ref_scale']

/-- The reference's rows of scales. -/
theorem ref_eq9 : Out1RefRun.G9 C s X W ws nw = Y9 C s X W ws nw := by
  funext i
  unfold Cert.Out1RefRun.G9 Cert.Out1RefIdeal.Gen.k0_pay3 Y9
  rw [← ref_scale']
  pointwise
  rfl

end Reference

variable (m : (ℓ : Loc nD τ sig) → Buf (Elt Ideal) ℓ)

/-- The host's broadcast of the row scales over 128 lanes, at an index. -/
theorem lanes_apply (c : Dev nD) (i : S1792x128.Idx) :
    V m c main_v0 i = m ((c : Thread nD τ).loc main_arg1) (ix2 (i 0) 0) := by
  unfold V
  after_reads_at

/-- The block of each window at a grid point: 256 rows of the codes, the scales, the residual and the results; the whole
    of the weights and their scales. -/
theorem idx_facts : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0, 0] :=
  (by decide +kernel : ∀ t : Fin grid0.N, _)

/-- Row `r` of grid point `t` is row `256 t + r` of the arrays. -/
theorem H_eq (c : Dev nD) (t : Fin cfg0.N) (r : Fin 256) (q : Fin 1792) (hq : q.val = t.val * 256 + r.val) (n : Fin 5120) :
    H (iblk m c 0 t) (iblk m c 1 t) (iblk m c 2 t) (iblk m c 3 t) (iblk m c 4 t) r n
      = P (m ((c : Thread nD τ).loc main_arg0)) (m ((c : Thread nD τ).loc main_arg1)) (m ((c : Thread nD τ).loc main_arg2))
          (m ((c : Thread nD τ).loc main_arg3)) (m ((c : Thread nD τ).loc main_arg4)) q n := by
  obtain ⟨e0, e1, e2, e3, e4, e5, e6, e7, e8, e9⟩ := idx_facts t
  unfold H P
  blk_simp [iblk]
  rw [V_main_arg0, V_main_arg2, V_main_arg3, V_main_arg4, lanes_apply]
  refine congrArg₂ (· + ·) (congrArg _ ?_) (congrArg₂ (· * ·) (congrArg₂ (· * ·)
    (Finset.sum_congr rfl fun k _ => congrArg₂ (· * ·) (congrArg _ ?_) (congrArg _ ?_)) (congrArg _ ?_)) (congrArg _ ?_))
  all_goals blk_ext [e0, e1, e2, e3, e4]

/-- Row `r` of grid point `t`'s normed values is row `256 t + r` of the whole. -/
theorem row_eq (c : Dev nD) (t : Fin cfg0.N) (r : Fin 256) (q : Fin 1792) (hq : q.val = t.val * 256 + r.val) :
    row (iblk m c 0 t) (iblk m c 1 t) (iblk m c 2 t) (iblk m c 3 t) (iblk m c 4 t) (iblk m c 5 t) r
      = N (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) q := by
  obtain ⟨e0, e1, e2, e3, e4, e5, e6, e7, e8, e9⟩ := idx_facts t
  unfold row N
  refine congrArg₂ _ (funext fun n => H_eq m c t r q hq n) (funext fun k => ?_)
  blk_simp [iblk]
  rw [V_main_arg5]
  refine congrArg _ ?_
  blk_ext [e5]

/-- The kernel's projection. -/
theorem kernel_eq6 (c : Dev nD) :
    (dats m 0 c).arrAt 6 cfg0.N = Y6 (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6, e7, e8, e9⟩ := idx_facts t
  blk_simp
  rw [after6_eq]
  unfold Y6
  have h0 : win0_6.index t (0 : Fin 2) = t.val := congrFun e6 0
  have h1 : win0_6.index t (1 : Fin 2) = 0 := congrFun e6 1
  refine (H_eq m c t _ _ ?_ _).trans (congrArg _ (Fin.ext ?_))
  · show win0_6.index t (0 : Fin 2) * 256 + 1 * (y 0).val = t.val * 256 + (y 0).val
    omega
  · show (y 1).val = win0_6.index t (1 : Fin 2) * 5120 + 1 * (y 1).val
    omega

/-- The kernel's codes. -/
theorem kernel_eq7 (c : Dev nD) :
    (dats m 0 c).arrAt 7 cfg0.N = Y7 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨e0, e1, e2, e3, e4, e5, e6, e7, e8, e9⟩ := idx_facts t
  blk_simp
  rw [after7_eq]
  unfold Y7
  have h0 : win0_7.index t (0 : Fin 2) = t.val := congrFun e7 0
  have h1 : win0_7.index t (1 : Fin 2) = 0 := congrFun e7 1
  refine congrArg₂ Row.code (row_eq m c t _ _ ?_) (Fin.ext ?_)
  · show win0_7.index t (0 : Fin 2) * 256 + 1 * (y 0).val = t.val * 256 + (y 0).val
    omega
  · show (y 1).val = win0_7.index t (1 : Fin 2) * 5120 + 1 * (y 1).val
    omega

/-- The kernel's column of scales. -/
theorem kernel_eq8 (c : Dev nD) :
    (dats m 0 c).arrAt 8 cfg0.N = Y8 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨e0, e1, e2, e3, e4, e5, e6, e7, e8, e9⟩ := idx_facts t
  blk_simp
  rw [after8_eq]
  unfold Y8
  have h0 : win0_8.index t (0 : Fin 2) = t.val := congrFun e8 0
  refine congrArg Row.scale (row_eq m c t _ _ ?_)
  show win0_8.index t (0 : Fin 2) * 256 + 1 * (y 0).val = t.val * 256 + (y 0).val
  omega

/-- The kernel's rows of scales. -/
theorem kernel_eq9 (c : Dev nD) :
    (dats m 0 c).arrAt 9 cfg0.N = Y9 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨e0, e1, e2, e3, e4, e5, e6, e7, e8, e9⟩ := idx_facts t
  blk_simp
  rw [after9_eq]
  unfold Y9
  have h0 : win0_9.index t (0 : Fin 3) = t.val := congrFun e9 0
  have h2 : win0_9.index t (2 : Fin 3) = 0 := congrFun e9 2
  refine congrArg Row.scale (row_eq m c t _ _ ?_)
  show (win0_9.index t (0 : Fin 3) * 2 + 1 * (y 0).val) * 128 + (win0_9.index t (2 : Fin 3) * 128 + 1 * (y 2).val)
    = t.val * 256 + ((y 0).val * 128 + (y 2).val)
  omega

end Cert.Out1Eq

end
-- ==== Proof.Out1.Claim.lean ====
module

public import proofs.«01_k».proof.Defs
public import proofs.«01_k».proof.Proof.Gen.Out1.Frame
public import proofs.«01_k».proof.Proof.Gen.Out1Ideal.Value
public import proofs.«01_k».proof.Proof.Out1.Array

@[expose] public section

/-! The equation of the first output projection with its reference. -/

noncomputable section

namespace Cert.Out1Eq

open Idealize.ShloMosaic Idealize.ShloMosaic.TcCoe Idealize.SL.Sem

instance : Cert.Out1.Facts := Cert.Out1.Gen.facts
instance : Cert.Out1Ideal.Facts := Cert.Out1Ideal.Gen.facts
instance : Cert.Out1RefIdeal.Facts := Cert.Out1RefIdeal.Gen.facts

/-- The first output projection and the reference, run over the extended reals, end with equal projections, codes, scales
    and rows of scales. -/
theorem algebraic : algebraic_Out1Ideal_Out1RefIdeal := by
  intro m g m' g' _ hm
  let C (c : Dev Out1Ideal.nD) := m ((c.tc : Thread Out1Ideal.nD Out1Ideal.τ).loc Out1Ideal.main_arg0)
  let s (c : Dev Out1Ideal.nD) := m ((c.tc : Thread Out1Ideal.nD Out1Ideal.τ).loc Out1Ideal.main_arg1)
  let X (c : Dev Out1Ideal.nD) := m ((c.tc : Thread Out1Ideal.nD Out1Ideal.τ).loc Out1Ideal.main_arg2)
  let W (c : Dev Out1Ideal.nD) := m ((c.tc : Thread Out1Ideal.nD Out1Ideal.τ).loc Out1Ideal.main_arg3)
  let ws (c : Dev Out1Ideal.nD) := m ((c.tc : Thread Out1Ideal.nD Out1Ideal.τ).loc Out1Ideal.main_arg4)
  let nw (c : Dev Out1Ideal.nD) := m ((c.tc : Thread Out1Ideal.nD Out1Ideal.τ).loc Out1Ideal.main_arg5)
  refine ⟨fun c => Y6 (C c) (s c) (X c) (W c) (ws c), fun c => Y7 (C c) (s c) (X c) (W c) (ws c) (nw c), fun c => Y8 (C c) (s c) (X c) (W c) (ws c) (nw c), fun c => Y9 (C c) (s c) (X c) (W c) (ws c) (nw c), ?_, ?_⟩
  · refine (θ_run _ _ _).mono (fun r h c => ?_) (Out1Ideal.Value.run_blocks (F := Ideal) m g)
    obtain ⟨h6, h7, h8, h9, h⟩ := h c
    exact ⟨h6.trans (kernel_eq6 m c), h7.trans (kernel_eq7 m c), h8.trans (kernel_eq8 m c), h9.trans (kernel_eq9 m c), h⟩
  · refine (θ_run _ _ _).mono (fun r h c => ?_) (Out1RefRun.run (F := Ideal) m' g')
    obtain ⟨h6, h7, h8, h9, h⟩ := h c
    obtain ⟨a0, a1, a2, a3, a4, a5⟩ := hm c
    refine ⟨h6.trans ?_, h7.trans ?_, h8.trans ?_, h9.trans ?_, h⟩
    · rw [ref_eq6]; exact congr (congr (congr (congr (congrArg Y6 a0) a1) a2) a3) a4
    · rw [ref_eq7]; exact congr (congr (congr (congr (congr (congrArg Y7 a0) a1) a2) a3) a4) a5
    · rw [ref_eq8]; exact congr (congr (congr (congr (congr (congrArg Y8 a0) a1) a2) a3) a4) a5
    · rw [ref_eq9]; exact congr (congr (congr (congr (congr (congrArg Y9 a0) a1) a2) a3) a4) a5

end Cert.Out1Eq

end
-- ==== Proof.Out2.Block.lean ====
/- What one grid point of the second output projection computes: a 256-row block of the result, at an index. -/
module

public import proofs.«01_k».proof.Proof.Gen.Out2Ideal.Value
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.Out2Eq

open Idealize.ShloMosaic Cert.Out2Ideal Cert.Out2Ideal.Gen
open scoped BigOperators

/-- One entry of a 256-row block: the residual plus the dot product of a row of codes with a column of weight codes,
    scaled by the row's scale and the column's scale. -/
def blk (x0 : Vec Ideal S256x5120 .fp8e4m3) (x1 : Vec Ideal S256x128 .f32) (x2 : Vec Ideal S256x5120 .f32)
    (x3 : Vec Ideal S5120x5120 .fp8e4m3) (x4 : Vec Ideal S1x5120 .f32) (r : Fin 256) (n : Fin 5120) : EReal :=
  x2 (ix2 r n) + (∑ k : Fin 5120, x0 (ix2 r k) * x3 (ix2 k n)) * x1 (ix2 r 0) * x4 (ix2 0 n)

/-- A 512-column store keeps the row and shifts the column by its offset. -/
theorem emb_eq (o : Nat) (h : ∀ a, (![0, o] : Fin 2 → Nat) a + S256x512.size a ≤ S256x5120.size a) (x : S256x512.Idx) :
    (Rect.unit (s := S256x5120) ![0, o] S256x512.size h).emb x
      = ix2 (x 0) ⟨o + (x 1).val, by have := h 1; have := (x 1).isLt; simp [Matrix.cons_val_one] at *; omega⟩ := by
  funext a; apply Fin.ext
  match a with
  | ⟨0, _⟩ => show 0 + 1 * (x 0).val = (x 0).val; omega
  | ⟨1, _⟩ => show o + 1 * (x 1).val = o + (x 1).val; omega

/-- The body's ten stores leave `blk` at every index of the block. -/
theorem out_apply (x0 : Vec Ideal S256x5120 .fp8e4m3) (x1 : Vec Ideal S256x128 .f32) (x2 : Vec Ideal S256x5120 .f32)
    (x3 : Vec Ideal S5120x5120 .fp8e4m3) (x4 : Vec Ideal S1x5120 .f32) (y : S256x5120.Idx) :
    out0_5 x0 x1 x2 x3 x4 y = blk x0 x1 x2 x3 x4 (y 0) (y 1) := by
  unfold out0_5
  refine View.canon_apply_of_pieces (Val := Elt Ideal) (fun y : S256x5120.Idx => blk x0 x1 x2 x3 x4 (y 0) (y 1)) _ ?_ y (cover0_5 _ _ _ _ _ _ _ _ _ _ y)
  intro p hp x
  simp only [List.mem_cons, List.not_mem_nil, or_false] at hp
  rcases hp with rfl | rfl | rfl | rfl | rfl | rfl | rfl | rfl | rfl | rfl
  all_goals
    rw [emb_eq]
    unfold_payloads
    pointwise [dot_S256x5120_S5120x512_S256x512_1_0_0_1_n_n, blk]

end Cert.Out2Eq

end
-- ==== Proof.Out2.Array.lean ====
/- The result array of the second output projection, and the reference's, are one function of the arguments. -/
module

public import proofs.«01_k».proof.Proof.Out2.Block
public import proofs.«01_k».proof.Proof.Gen.Out2RefIdeal.Value
public import Idealize.ShloMosaic.Lib.StableHlo.ReadAt

@[expose] public section

set_option maxRecDepth 16384

noncomputable section

namespace Cert.Out2Eq

open Idealize.ShloMosaic Idealize.ShloMosaic.TcCoe Cert.Out2Ideal Cert.Out2Ideal.Gen
open scoped BigOperators

/-- The second output projection with its residual: `h + (codes · weights) * scales * weight scales`. -/
def Y (C : S1792x5120.Idx → EReal) (s : (⟨2, ![1792, 1]⟩ : Shape).Idx → EReal) (H : S1792x5120.Idx → EReal)
    (W : S5120x5120.Idx → EReal) (ws : S1x5120.Idx → EReal) : S1792x5120.Idx → EReal :=
  fun i => H (ix2 (i 0) (i 1)) + (∑ k : Fin 5120, C (ix2 (i 0) k) * W (ix2 k (i 1))) * s (ix2 (i 0) 0) * ws (ix2 0 (i 1))

/-- The reference computes `Y`. -/
theorem ref_eq (C : Vec Ideal S1792x5120 .fp8e4m3) (s : Vec Ideal ⟨2, ![1792, 1]⟩ .f32) (H : Vec Ideal S1792x5120 .f32)
    (W : Vec Ideal S5120x5120 .fp8e4m3) (ws : Vec Ideal S1x5120 .f32) :
    Cert.Out2RefIdeal.Value.G5 (F := Ideal) C s H W ws = Y C s H W ws := by
  funext i
  unfold Y
  unfold Cert.Out2RefIdeal.Value.G5
  unfold_payloads
  pointwise [Cert.Out2RefIdeal.dot_S1792x5120_S5120x5120_S1792x5120_1_0_0_1_n_n]

variable (m : (ℓ : Loc nD τ sig) → Buf (Elt Ideal) ℓ)

/-- The host's broadcast of the row scales over 128 lanes, at an index. -/
theorem lanes_apply (c : Dev nD) (i : S1792x128.Idx) :
    V m c main_v0 i = m ((c : Thread nD τ).loc main_arg1) (ix2 (i 0) 0) := by
  unfold V
  after_reads_at

/-- The block of each window at a grid point: 256 rows of the codes, the scales, the residual and the result; the whole
    of the weights and their scales. -/
theorem idx_facts : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The kernel's result array is `Y` of the arguments. -/
theorem kernel_eq (c : Dev nD) :
    (dats m 0 c).arrAt 5 cfg0.N
      = Y (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  obtain ⟨e0, e1, e2, e3, e4, e5⟩ := idx_facts t
  blk_simp
  rw [after0_5, out_apply]
  unfold blk Y
  blk_simp [iblk]
  rw [V_main_arg0, V_main_arg2, V_main_arg3, V_main_arg4, lanes_apply]
  refine congrArg₂ (· + ·) (congrArg _ ?_) (congrArg₂ (· * ·) (congrArg₂ (· * ·)
    (Finset.sum_congr rfl fun k _ => congrArg₂ (· * ·) (congrArg _ ?_) (congrArg _ ?_)) (congrArg _ ?_)) (congrArg _ ?_))
  all_goals blk_ext [e0, e1, e2, e3, e4, e5]

end Cert.Out2Eq

end
-- ==== Proof.Out2.Claim.lean ====
/- The claims about the second output projection: its frames and the equation with the reference. -/
module

public import proofs.«01_k».proof.Defs
public import proofs.«01_k».proof.Proof.Gen.Out2.Frame
public import proofs.«01_k».proof.Proof.Out2.Array

@[expose] public section

noncomputable section

namespace Cert.Out2Eq

open Idealize.ShloMosaic Idealize.ShloMosaic.TcCoe Idealize.SL.Sem

instance : Cert.Out2.Facts := Cert.Out2.Gen.facts
instance : Cert.Out2Ideal.Facts := Cert.Out2Ideal.Gen.facts
instance : Cert.Out2RefIdeal.Facts := Cert.Out2RefIdeal.Gen.facts

/-- The second output projection and the reference, run over the extended reals, end with equal results. -/
theorem algebraic : algebraic_Out2Ideal_Out2RefIdeal := by
  intro m g m' g' _ hm
  refine ⟨fun c => Y (m ((c.tc : Thread Out2Ideal.nD Out2Ideal.τ).loc Out2Ideal.main_arg0)) (m ((c.tc : Thread Out2Ideal.nD Out2Ideal.τ).loc Out2Ideal.main_arg1))
    (m ((c.tc : Thread Out2Ideal.nD Out2Ideal.τ).loc Out2Ideal.main_arg2)) (m ((c.tc : Thread Out2Ideal.nD Out2Ideal.τ).loc Out2Ideal.main_arg3))
    (m ((c.tc : Thread Out2Ideal.nD Out2Ideal.τ).loc Out2Ideal.main_arg4)), ?_, ?_⟩
  · refine (θ_run _ _ _).mono (fun r h c => ?_) (Out2Ideal.Value.run_blocks (F := Ideal) m g)
    obtain ⟨h0, h⟩ := h c
    exact ⟨h0.trans (kernel_eq m c), h⟩
  · refine (θ_run _ _ _).mono (fun r h c => ?_) (Out2RefIdeal.Value.run (F := Ideal) m' g')
    obtain ⟨h0, h⟩ := h c
    obtain ⟨a0, a1, a2, a3, a4⟩ := hm c
    refine ⟨h0.trans ?_, h⟩
    rw [ref_eq]
    exact congr (congr (congr (congr (congrArg Y a0) a1) a2) a3) a4

end Cert.Out2Eq

end
-- ==== Proof.lean ====
module

public import proofs.«01_k».proof.Defs
public import proofs.«01_k».proof.Proof.Gen.Out2
public import proofs.«01_k».proof.Proof.Gen.Out2.Skeleton
public import proofs.«01_k».proof.Proof.Gen.Out2.Launch
public import proofs.«01_k».proof.Proof.Gen.Out2.Points
public import proofs.«01_k».proof.Proof.Gen.Out2.Frame
public import proofs.«01_k».proof.Proof.Gen.Out2Ideal
public import proofs.«01_k».proof.Proof.Gen.Out2Ideal.Skeleton
public import proofs.«01_k».proof.Proof.Gen.Out2Ideal.Launch
public import proofs.«01_k».proof.Proof.Gen.Out2Ideal.Points
public import proofs.«01_k».proof.Proof.Gen.Out2Ideal.Frame
public import proofs.«01_k».proof.Proof.Gen.Out2Ideal.Value
public import proofs.«01_k».proof.Proof.Gen.Out2RefIdeal
public import proofs.«01_k».proof.Proof.Gen.Out2RefIdeal.Skeleton
public import proofs.«01_k».proof.Proof.Gen.Out2RefIdeal.Launch
public import proofs.«01_k».proof.Proof.Gen.Out2RefIdeal.Points
public import proofs.«01_k».proof.Proof.Gen.Out2RefIdeal.Frame
public import proofs.«01_k».proof.Proof.Gen.Out2RefIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Norm.Claim
public import proofs.«01_k».proof.Proof.Gen.Qkv2
public import proofs.«01_k».proof.Proof.Gen.Qkv2.Skeleton
public import proofs.«01_k».proof.Proof.Gen.Qkv2.Launch
public import proofs.«01_k».proof.Proof.Gen.Qkv2.Points
public import proofs.«01_k».proof.Proof.Gen.Qkv2Ideal
public import proofs.«01_k».proof.Proof.Gen.Qkv2Ideal.Skeleton
public import proofs.«01_k».proof.Proof.Gen.Qkv2Ideal.Launch
public import proofs.«01_k».proof.Proof.Gen.Qkv2Ideal.Points
public import proofs.«01_k».proof.Proof.Gen.Qkv2Ideal.Frame
public import proofs.«01_k».proof.Proof.Gen.Qkv2RefIdeal
public import proofs.«01_k».proof.Proof.Gen.Qkv2RefIdeal.Skeleton
public import proofs.«01_k».proof.Proof.Gen.Qkv2RefIdeal.Launch
public import proofs.«01_k».proof.Proof.Gen.Qkv2RefIdeal.Points
public import proofs.«01_k».proof.Proof.Gen.Qkv2RefIdeal.Frame
public import proofs.«01_k».proof.Proof.Gen.Qkv2RefIdeal.Value
public import proofs.«01_k».proof.Proof.Qkv2.Claim
public import proofs.«01_k».proof.Proof.Gen.Out1
public import proofs.«01_k».proof.Proof.Gen.Out1.Skeleton
public import proofs.«01_k».proof.Proof.Gen.Out1.Launch
public import proofs.«01_k».proof.Proof.Gen.Out1.Points
public import proofs.«01_k».proof.Proof.Gen.Out1.Frame
public import proofs.«01_k».proof.Proof.Gen.Out1Ideal
public import proofs.«01_k».proof.Proof.Gen.Out1Ideal.Skeleton
public import proofs.«01_k».proof.Proof.Gen.Out1Ideal.Launch
public import proofs.«01_k».proof.Proof.Gen.Out1Ideal.Points
public import proofs.«01_k».proof.Proof.Gen.Out1Ideal.Frame
public import proofs.«01_k».proof.Proof.Gen.Out1Ideal.Value
public import proofs.«01_k».proof.Proof.Gen.Out1RefIdeal
public import proofs.«01_k».proof.Proof.Gen.Out1RefIdeal.Skeleton
public import proofs.«01_k».proof.Proof.Gen.Out1RefIdeal.Launch
public import proofs.«01_k».proof.Proof.Gen.Out1RefIdeal.Points
public import proofs.«01_k».proof.Proof.Gen.Out1RefIdeal.Frame
public import proofs.«01_k».proof.Proof.Out1.Claim
public import proofs.«01_k».proof.Proof.Out2.Claim
public import Idealize.ShloMosaic.Adequacy
public import Idealize.ShloMosaic.Init

@[expose] public section

noncomputable section

-- The claims about the programs also say that every semaphore counter ends at zero; the frames show that too.

namespace Cert.Proof

open Idealize.ShloMosaic Idealize.SL.Sem

/-- The frames of the nine programs, and the equations of the three calls with their references. -/
theorem claim : Cert.Claim :=
  ⟨Norm.Gen.facts, NormIdeal.Gen.facts, NormRefIdeal.Gen.facts,
    Qkv2.Gen.facts, Qkv2Ideal.Gen.facts, Qkv2RefIdeal.Gen.facts,
    Out1.Gen.facts, Out1Ideal.Gen.facts, Out1RefIdeal.Gen.facts,
    Out2.Gen.facts, Out2Ideal.Gen.facts, Out2RefIdeal.Gen.facts,
    fun m ρ _ => Norm.Gen.frame m ρ, fun m ρ _ => NormIdeal.Gen.frame m ρ, fun m ρ _ => NormRefIdeal.Gen.frame m ρ,
    fun m ρ _ => Qkv2.Gen.frame m ρ, fun m ρ _ => Qkv2Ideal.Gen.frame m ρ, fun m ρ _ => Qkv2RefIdeal.Gen.frame m ρ,
    fun m ρ _ => Out1.Gen.frame m ρ, fun m ρ _ => Out1Ideal.Gen.frame m ρ, fun m ρ _ => Out1RefIdeal.Gen.frame m ρ,
    fun m ρ _ => Out2.Gen.frame m ρ, fun m ρ _ => Out2Ideal.Gen.frame m ρ, fun m ρ _ => Out2RefIdeal.Gen.frame m ρ,
    trivial, NormEq.algebraic,
    trivial, Qkv2Eq.algebraic,
    IdealRules.named_const.statement Out1Ideal.κ "inv_d" .f32 0x394CCCCD#32 ((1 / 5120 : ℝ) : EReal) rfl, Out1Eq.algebraic,
    trivial, Out2Eq.algebraic⟩

end Cert.Proof

end
